-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_queries_and_keys [hPre_finite_queries_and_keys : Cert.Pre_finite_queries_and_keys.Facts] (m : (ℓ : Loc Cert.KernelIdeal.nD Cert.KernelIdeal.τ Cert.KernelIdeal.sig) → Buf (Elt Ideal) ℓ) : Prop :=
  ∀ c : Dev Cert.KernelIdeal.nD,
    (Cert.Pre_finite_queries_and_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_queries_and_keys [hPre_finite_queries_and_keys : Cert.Pre_finite_queries_and_keys.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_queries_and_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite_queries_and_keys [hKernelIdeal : Cert.KernelIdeal.Facts] [hPre_finite_queries_and_keys : Cert.Pre_finite_queries_and_keys.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_queries_and_keys m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite_queries_and_keys [hReferenceIdeal : Cert.ReferenceIdeal.Facts] [hPre_finite_queries_and_keys : Cert.Pre_finite_queries_and_keys.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_queries_and_keys m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  IdealRules.named_const.Statement Cert.KernelIdeal.κ "log2e_over_sqrt_s" .f32 0x3D0293EE#32 (((Real.log 2)⁻¹ * (Real.sqrt 2048)⁻¹ : ℝ) : EReal)

def algebraic_KernelIdeal_ReferenceIdeal_pre_finite_queries_and_keys [hKernelIdeal : Cert.KernelIdeal.Facts] [hReferenceIdeal : Cert.ReferenceIdeal.Facts] [hPre_finite_queries_and_keys : Cert.Pre_finite_queries_and_keys.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_queries_and_keys m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_queries_and_keys : Cert.Pre_finite_queries_and_keys.Facts),
    quiescent_Kernel (hKernel := hKernel)
    ∧ quiescent_KernelIdeal (hKernelIdeal := hKernelIdeal)
    ∧ quiescent_KernelIdeal_pre_finite_queries_and_keys (hKernelIdeal := hKernelIdeal) (hPre_finite_queries_and_keys := hPre_finite_queries_and_keys)
    ∧ quiescent_ReferenceIdeal (hReferenceIdeal := hReferenceIdeal)
    ∧ quiescent_ReferenceIdeal_pre_finite_queries_and_keys (hReferenceIdeal := hReferenceIdeal) (hPre_finite_queries_and_keys := hPre_finite_queries_and_keys)
    ∧ preserves_Kernel_KernelIdeal
    ∧ algebraic_KernelIdeal_ReferenceIdeal_pre_finite_queries_and_keys (hKernelIdeal := hKernelIdeal) (hReferenceIdeal := hReferenceIdeal) (hPre_finite_queries_and_keys := hPre_finite_queries_and_keys)
-- ==== Pre_finite_queries_and_keys.lean ====
abbrev S2x2048x1024 : Shape := ⟨3, ![2, 2048, 1024]⟩
abbrev S16x1024x64 : Shape := ⟨3, ![16, 1024, 64]⟩
abbrev S16x64 : Shape := ⟨2, ![16, 64]⟩
abbrev S1024x1024 : Shape := ⟨2, ![1024, 1024]⟩
abbrev S1024 : Shape := ⟨1, ![1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S16x1024x64 : S_.BroadcastsInDim S16x1024x64 (![] : Fin 0 → Fin S16x1024x64.rank)
  reducesTo_S16x1024x64_S_d0_1_2 : S16x1024x64.ReducesTo [0, 1, 2] S_
  bcast_S_S16x64 : S_.BroadcastsInDim S16x64 (![] : Fin 0 → Fin S16x64.rank)
  reducesTo_S16x64_S_d0_1 : S16x64.ReducesTo [0, 1] S_

variable [Facts]

def fn_part1 {F : FTy → Type} [FloatOps F] (main_arg4 : FVec F S16x64 .f32) (main_v13 : IVec S_ 1) (main_v16 : IVec S16x1024x64 1) : IVec S_ 1 :=
  let main_c_5 : IVec S_ 1 := constantI S_ 1 1#1
  let main_v17 : IVec S_ 1 := (fun x v => Host.reduce IntOp.andi x v reducesTo_S16x1024x64_S_d0_1_2 h_S_) main_v16 main_c_5
  let main_v18 : IVec S_ 1 := andi main_v13 main_v17
  let main_v19 : FVec F S16x64 .f32 := Host.absf main_arg4
  let main_cst_6 : FVec F S_ .f32 := constant S_ .f32 0x7F800000#32
  let main_v20 : FVec F S16x64 .f32 := broadcastInDim S16x64 ![] bcast_S_S16x64 main_cst_6
  let main_v21 : IVec S16x64 1 := cmpf .olt main_v19 main_v20
  let main_c_7 : IVec S_ 1 := constantI S_ 1 1#1
  let main_v22 : IVec S_ 1 := (fun x v => Host.reduce IntOp.andi x v reducesTo_S16x64_S_d0_1 h_S_) main_v21 main_c_7
  let main_v23 : IVec S_ 1 := andi main_v18 main_v22
  main_v23

def fn {F : FTy → Type} [FloatOps F] (main_arg0 : FVec F S2x2048x1024 .f32) (main_arg1 : FVec F S16x1024x64 .f32) (main_arg2 : FVec F S16x64 .f32) (main_arg3 : FVec F S16x1024x64 .f32) (main_arg4 : FVec F S16x64 .f32) (main_arg5 : FVec F S16x1024x64 .f32) (main_arg6 : FVec F S16x64 .f32) (main_arg7 : FVec F S1024x1024 .f32) (main_arg8 : FVec F S1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S16x1024x64 .f32 := Host.absf main_arg1
  let main_cst_0 : FVec F S_ .f32 := constant S_ .f32 0x7F800000#32
  let main_v5 : FVec F S16x1024x64 .f32 := broadcastInDim S16x1024x64 ![] bcast_S_S16x1024x64 main_cst_0
  let main_v6 : IVec S16x1024x64 1 := cmpf .olt main_v4 main_v5
  let main_c_1 : IVec S_ 1 := constantI S_ 1 1#1
  let main_v7 : IVec S_ 1 := (fun x v => Host.reduce IntOp.andi x v reducesTo_S16x1024x64_S_d0_1_2 h_S_) main_v6 main_c_1
  let main_v8 : IVec S_ 1 := andi main_v3 main_v7
  let main_v9 : FVec F S16x64 .f32 := Host.absf main_arg2
  let main_cst_2 : FVec F S_ .f32 := constant S_ .f32 0x7F800000#32
  let main_v10 : FVec F S16x64 .f32 := broadcastInDim S16x64 ![] bcast_S_S16x64 main_cst_2
  let main_v11 : IVec S16x64 1 := cmpf .olt main_v9 main_v10
  let main_c_3 : IVec S_ 1 := constantI S_ 1 1#1
  let main_v12 : IVec S_ 1 := (fun x v => Host.reduce IntOp.andi x v reducesTo_S16x64_S_d0_1 h_S_) main_v11 main_c_3
  let main_v13 : IVec S_ 1 := andi main_v8 main_v12
  let main_v14 : FVec F S16x1024x64 .f32 := Host.absf main_arg3
  let main_cst_4 : FVec F S_ .f32 := constant S_ .f32 0x7F800000#32
  let main_v15 : FVec F S16x1024x64 .f32 := broadcastInDim S16x1024x64 ![] bcast_S_S16x1024x64 main_cst_4
  let main_v16 : IVec S16x1024x64 1 := cmpf .olt main_v14 main_v15
  fn_part1 (F := F) main_arg4 main_v13 main_v16
-- ==== Kernel.lean ====
abbrev S2x2048x1024 : Shape := ⟨3, ![2, 2048, 1024]⟩
abbrev S16x1024x64 : Shape := ⟨3, ![16, 1024, 64]⟩
abbrev S16x64 : Shape := ⟨2, ![16, 64]⟩
abbrev S1024x1024 : Shape := ⟨2, ![1024, 1024]⟩
abbrev S1024 : Shape := ⟨1, ![1024]⟩
abbrev S16x1024x192 : Shape := ⟨3, ![16, 1024, 192]⟩
abbrev S4x4x1024x192 : Shape := ⟨4, ![4, 4, 1024, 192]⟩
abbrev S4x1024x4x192 : Shape := ⟨4, ![4, 1024, 4, 192]⟩
abbrev S4x1024x768 : Shape := ⟨3, ![4, 1024, 768]⟩
abbrev S16x192 : Shape := ⟨2, ![16, 192]⟩
abbrev S4x1x768 : Shape := ⟨3, ![4, 1, 768]⟩
abbrev S2x16x2048x64 : Shape := ⟨4, ![2, 16, 2048, 64]⟩
abbrev S1x2048x1024 : Shape := ⟨3, ![1, 2048, 1024]⟩
abbrev S1x1024x768 : Shape := ⟨3, ![1, 1024, 768]⟩
abbrev S1x1x768 : Shape := ⟨3, ![1, 1, 768]⟩
abbrev S1x4x2048x64 : Shape := ⟨4, ![1, 4, 2048, 64]⟩
abbrev S2048x1024 : Shape := ⟨2, ![2048, 1024]⟩
abbrev S1024x768 : Shape := ⟨2, ![1024, 768]⟩
abbrev S2048x768 : Shape := ⟨2, ![2048, 768]⟩
abbrev S1x768 : Shape := ⟨2, ![1, 768]⟩
abbrev S2048x64 : Shape := ⟨2, ![2048, 64]⟩
abbrev S1024x64 : Shape := ⟨2, ![1024, 64]⟩
abbrev S1024x2048 : Shape := ⟨2, ![1024, 2048]⟩
abbrev S1024x1 : Shape := ⟨2, ![1024, 1]⟩
abbrev S1x1x1024x64 : Shape := ⟨4, ![1, 1, 1024, 64]⟩
abbrev S16x64x1024 : Shape := ⟨3, ![16, 64, 1024]⟩
abbrev S1x1024 : Shape := ⟨2, ![1, 1024]⟩
abbrev S4x1024x1024 : Shape := ⟨3, ![4, 1024, 1024]⟩
abbrev S1x16x1024x64 : Shape := ⟨4, ![1, 16, 1024, 64]⟩
abbrev S1x1024x1024 : Shape := ⟨3, ![1, 1024, 1024]⟩
abbrev S1x64x1024 : Shape := ⟨3, ![1, 64, 1024]⟩
abbrev S64x1024 : Shape := ⟨2, ![64, 1024]⟩

abbrev nBuf : Space → Nat
  | .hbm => 23
  | .vmem => 14
  | .smem => 0
  | _ => 0

abbrev bufTy : (tb : Table) → Fin (tcTables nBuf tb) → BufTy
  | .hbm, ⟨0, _⟩ => ⟨S2x2048x1024, .f32⟩
  | .hbm, ⟨1, _⟩ => ⟨S16x1024x64, .f32⟩
  | .hbm, ⟨2, _⟩ => ⟨S16x64, .f32⟩
  | .hbm, ⟨3, _⟩ => ⟨S16x1024x64, .f32⟩
  | .hbm, ⟨4, _⟩ => ⟨S16x64, .f32⟩
  | .hbm, ⟨5, _⟩ => ⟨S16x1024x64, .f32⟩
  | .hbm, ⟨6, _⟩ => ⟨S16x64, .f32⟩
  | .hbm, ⟨7, _⟩ => ⟨S1024x1024, .f32⟩
  | .hbm, ⟨8, _⟩ => ⟨S1024, .f32⟩
  | .hbm, ⟨9, _⟩ => ⟨S16x1024x192, .f32⟩
  | .hbm, ⟨10, _⟩ => ⟨S16x1024x192, .bf16⟩
  | .hbm, ⟨11, _⟩ => ⟨S4x4x1024x192, .bf16⟩
  | .hbm, ⟨12, _⟩ => ⟨S4x1024x4x192, .bf16⟩
  | .hbm, ⟨13, _⟩ => ⟨S4x1024x768, .bf16⟩
  | .hbm, ⟨14, _⟩ => ⟨S16x192, .f32⟩
  | .hbm, ⟨15, _⟩ => ⟨S4x1x768, .f32⟩
  | .hbm, ⟨16, _⟩ => ⟨S2x2048x1024, .bf16⟩
  | .hbm, ⟨17, _⟩ => ⟨S2x16x2048x64, .bf16⟩
  | .hbm, ⟨18, _⟩ => ⟨S16x64x1024, .f32⟩
  | .hbm, ⟨19, _⟩ => ⟨S16x64x1024, .bf16⟩
  | .hbm, ⟨20, _⟩ => ⟨S1x1024, .f32⟩
  | .hbm, ⟨21, _⟩ => ⟨S4x1024x1024, .f32⟩
  | .hbm, ⟨22, _⟩ => ⟨S2x2048x1024, .f32⟩
  | .local _ .vmem, ⟨0, _⟩ => ⟨S1x2048x1024, .bf16⟩
  | .local _ .vmem, ⟨1, _⟩ => ⟨S1x2048x1024, .bf16⟩
  | .local _ .vmem, ⟨2, _⟩ => ⟨S1x1024x768, .bf16⟩
  | .local _ .vmem, ⟨3, _⟩ => ⟨S1x1024x768, .bf16⟩
  | .local _ .vmem, ⟨4, _⟩ => ⟨S1x1x768, .f32⟩
  | .local _ .vmem, ⟨5, _⟩ => ⟨S1x1x768, .f32⟩
  | .local _ .vmem, ⟨6, _⟩ => ⟨S1x4x2048x64, .bf16⟩
  | .local _ .vmem, ⟨7, _⟩ => ⟨S1x4x2048x64, .bf16⟩
  | .local _ .vmem, ⟨8, _⟩ => ⟨S1x16x1024x64, .bf16⟩
  | .local _ .vmem, ⟨9, _⟩ => ⟨S1x16x1024x64, .bf16⟩
  | .local _ .vmem, ⟨10, _⟩ => ⟨S16x64x1024, .bf16⟩
  | .local _ .vmem, ⟨11, _⟩ => ⟨S1x1024, .f32⟩
  | .local _ .vmem, ⟨12, _⟩ => ⟨S1x1024x1024, .f32⟩
  | .local _ .vmem, ⟨13, _⟩ => ⟨S1x1024x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x4x2048x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![2, 2], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage1_0 : Fin 2 → Memref sig .tc .vmem S1x16x1024x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S16x64x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]
-- ==== KernelIdeal.lean ====
variable {F : FTy → Type} [FloatOps F] [Named F]
def κ : String → Option EReal := fun
  | "log2e_over_sqrt_s" => some (((Real.log 2)⁻¹ * (Real.sqrt 2048)⁻¹ : ℝ) : EReal)
  | _ => none
-- ==== ReferenceIdeal.lean ====
abbrev S2x2048x1024 : Shape := ⟨3, ![2, 2048, 1024]⟩
abbrev S16x1024x64 : Shape := ⟨3, ![16, 1024, 64]⟩
abbrev S16x64 : Shape := ⟨2, ![16, 64]⟩
abbrev S1024x1024 : Shape := ⟨2, ![1024, 1024]⟩
abbrev S1024 : Shape := ⟨1, ![1024]⟩
abbrev S16x64x2x2048 : Shape := ⟨4, ![16, 64, 2, 2048]⟩
abbrev S2x16x2048x64 : Shape := ⟨4, ![2, 16, 2048, 64]⟩
abbrev S1x16x1x64 : Shape := ⟨4, ![1, 16, 1, 64]⟩
abbrev S_ : Shape := ⟨0, ![]⟩
abbrev S2x16x2048x2048 : Shape := ⟨4, ![2, 16, 2048, 2048]⟩
abbrev S2x16x2048 : Shape := ⟨3, ![2, 16, 2048]⟩
abbrev S2x16x2048x1 : Shape := ⟨4, ![2, 16, 2048, 1]⟩
abbrev S2x2048x16x64 : Shape := ⟨4, ![2, 2048, 16, 64]⟩
abbrev S1x1x1024 : Shape := ⟨3, ![1, 1, 1024]⟩

abbrev nBuf : Space → Nat
  | .hbm => 50
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S16x1024x64, .f32⟩
  | .hbm, ⟨2, _⟩ => ⟨S16x64, .f32⟩
  | .hbm, ⟨3, _⟩ => ⟨S16x1024x64, .f32⟩
  | .hbm, ⟨4, _⟩ => ⟨S16x64, .f32⟩
  | .hbm, ⟨5, _⟩ => ⟨S16x1024x64, .f32⟩
  | .hbm, ⟨6, _⟩ => ⟨S16x64, .f32⟩
  | .hbm, ⟨7, _⟩ => ⟨S1024x1024, .f32⟩
  | .hbm, ⟨8, _⟩ => ⟨S1024, .f32⟩
  | .hbm, ⟨9, _⟩ => ⟨S16x64x2x2048, .f32⟩
  | .hbm, ⟨10, _⟩ => ⟨S2x16x2048x64, .f32⟩
  | .hbm, ⟨11, _⟩ => ⟨S1x16x1x64, .f32⟩
  | .hbm, ⟨12, _⟩ => ⟨S2x16x2048x64, .f32⟩
  | .hbm, ⟨13, _⟩ => ⟨S2x16x2048x64, .f32⟩
  | .hbm, ⟨14, _⟩ => ⟨S16x64x2x2048, .f32⟩
  | .hbm, ⟨15, _⟩ => ⟨S2x16x2048x64, .f32⟩
  | .hbm, ⟨16, _⟩ => ⟨S1x16x1x64, .f32⟩
  | .hbm, ⟨17, _⟩ => ⟨S2x16x2048x64, .f32⟩
  | .hbm, ⟨18, _⟩ => ⟨S2x16x2048x64, .f32⟩
  | .hbm, ⟨19, _⟩ => ⟨S16x64x2x2048, .f32⟩
  | .hbm, ⟨20, _⟩ => ⟨S2x16x2048x64, .f32⟩
  | .hbm, ⟨21, _⟩ => ⟨S1x16x1x64, .f32⟩
  | .hbm, ⟨22, _⟩ => ⟨S2x16x2048x64, .f32⟩
  | .hbm, ⟨23, _⟩ => ⟨S2x16x2048x64, .f32⟩
  | .hbm, ⟨24, _⟩ => ⟨S_, .f32⟩
  | .hbm, ⟨25, _⟩ => ⟨S_, .f32⟩
  | .hbm, ⟨26, _⟩ => ⟨S2x16x2048x2048, .f32⟩
  | .hbm, ⟨27, _⟩ => ⟨S2x16x2048x2048, .f32⟩
  | .hbm, ⟨28, _⟩ => ⟨S2x16x2048x2048, .f32⟩
  | .hbm, ⟨29, _⟩ => ⟨S_, .f32⟩
  | .hbm, ⟨30, _⟩ => ⟨S2x16x2048, .f32⟩
  | .hbm, ⟨31, _⟩ => ⟨S_, .f32⟩
  | .hbm, ⟨32, _⟩ => ⟨S2x16x2048, .f32⟩
  | .hbm, ⟨33, _⟩ => ⟨S2x16x2048, .f32⟩
  | .hbm, ⟨34, _⟩ => ⟨S2x16x2048x1, .f32⟩
  | .hbm, ⟨35, _⟩ => ⟨S2x16x2048x2048, .f32⟩
  | .hbm, ⟨36, _⟩ => ⟨S2x16x2048x2048, .f32⟩
  | .hbm, ⟨37, _⟩ => ⟨S2x16x2048x2048, .f32⟩
  | .hbm, ⟨38, _⟩ => ⟨S_, .f32⟩
  | .hbm, ⟨39, _⟩ => ⟨S2x16x2048, .f32⟩
  | .hbm, ⟨40, _⟩ => ⟨S2x16x2048x1, .f32⟩
  | .hbm, ⟨41, _⟩ => ⟨S2x16x2048x2048, .f32⟩
  | .hbm, ⟨42, _⟩ => ⟨S2x16x2048x2048, .f32⟩
  | .hbm, ⟨43, _⟩ => ⟨S2x16x2048x64, .f32⟩
  | .hbm, ⟨44, _⟩ => ⟨S2x2048x16x64, .f32⟩
  | .hbm, ⟨45, _⟩ => ⟨S2x2048x1024, .f32⟩
  | .hbm, ⟨46, _⟩ => ⟨S2x2048x1024, .f32⟩
  | .hbm, ⟨47, _⟩ => ⟨S1x1x1024, .f32⟩
  | .hbm, ⟨48, _⟩ => ⟨S2x2048x1024, .f32⟩
  | .hbm, ⟨49, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_0 : Ref sig .tc := ⟨.hbm, 29, rfl⟩
abbrev main_v19 : Ref sig .tc := ⟨.hbm, 30, rfl⟩
abbrev main_cst_1 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_2 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== Proof.Math.lean ====
/-
  The mathematics of the kernel and of the reference over the extended reals, away from either program: one head's
  attention as each writes it, and their equality where the queries and keys are real numbers.
-/
module

public import Idealize.ShloMosaic.PureOps.Ideal
public import Idealize.ShloMosaic.Lib.Pointwise

@[expose] public section

noncomputable section

open Idealize.ShloMosaic

namespace Cert.Attn

/-- Real numbers add up to the real number that is their sum. -/
theorem sum_real {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A nonnegative real factor on the right passes through a sum of extended reals, infinite or not. -/
theorem sum_mul_real {ι : Type} (s : Finset ι) (f : ι → EReal) (r : ℝ) (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha,
      EReal.right_distrib_of_nonneg_of_ne_top (EReal.coe_nonneg.mpr hr) (EReal.coe_ne_top r), ih]

/-- The greatest of finitely many reals, and of −∞, is a real number when there is at least one. -/
theorem fold_max_real {n : ℕ} [NeZero n] (f : Fin n → ℝ) :
    ∃ M : ℝ, Finset.univ.fold max (⊥ : EReal) (fun i => (f i : EReal)) = (M : EReal) := by
  have key : ∀ s : Finset (Fin n), s.fold max (⊥ : EReal) (fun i => (f i : EReal)) = ⊥ ∧ s = ∅
      ∨ ∃ M : ℝ, s.fold max (⊥ : EReal) (fun i => (f i : EReal)) = (M : EReal) := by
    intro s
    induction s using Finset.induction_on with
    | empty => exact Or.inl ⟨Finset.fold_empty, rfl⟩
    | insert a s ha ih =>
      refine Or.inr ?_
      rw [Finset.fold_insert ha]
      rcases ih with ⟨h, -⟩ | ⟨M, h⟩
      · exact ⟨f a, by rw [h]; exact max_eq_left bot_le⟩
      · exact ⟨max (f a) M, by rw [h]; exact (EReal.coe_strictMono.monotone.map_max).symm⟩
  rcases key Finset.univ with ⟨-, h⟩ | h
  · exact absurd (Finset.mem_univ (0 : Fin n)) (by rw [h]; exact Finset.notMem_empty _)
  · exact h

/-- The number the kernel multiplies the queries by: 1 / (ln 2 · √2048). -/
abbrev scale : ℝ := (Real.log 2)⁻¹ * (Real.sqrt 2048)⁻¹

/-- 2 to a scaled score is e to the score divided by √2048. -/
theorem two_pow_scaled (z : ℝ) : Real.rpow 2 (z * scale) = Real.exp (z * (1 / Real.sqrt 2048)) := by
  have h : Real.log 2 ≠ 0 := (Real.log_pos (by norm_num)).ne'
  show (2 : ℝ) ^ (z * scale) = _
  rw [Real.rpow_def_of_pos (by norm_num)]
  congr 1
  rw [scale, one_div]
  field_simp

/-- One row of attention: weighting by powers of two of the scaled scores and dividing the finished sum by the sum of
    the weights gives what the softmax does, which takes the row's greatest score (any real `M`) off first and divides
    every weight by the sum. The scores are real; the values may be anything. -/
theorem row_eq {n : ℕ} [NeZero n] (z : Fin n → ℝ) (v : Fin n → EReal) (M : ℝ) :
    (∑ t, Ideal.exp2 ((z t * scale : ℝ) : EReal) * v t) * Ideal.div 1 (∑ t, Ideal.exp2 ((z t * scale : ℝ) : EReal))
      = ∑ t, Ideal.div (Ideal.exp (Ideal.div (z t : EReal) ((Real.sqrt 2048 : ℝ) : EReal) - (M : EReal)))
          (∑ u, Ideal.exp (Ideal.div (z u : EReal) ((Real.sqrt 2048 : ℝ) : EReal) - (M : EReal))) * v t := by
  have hs : Real.sqrt 2048 ≠ 0 := (Real.sqrt_pos.mpr (by norm_num)).ne'
  have hp : ∀ t, Ideal.exp2 ((z t * scale : ℝ) : EReal) = ((Real.exp (z t * (1 / Real.sqrt 2048)) : ℝ) : EReal) := fun t => by
    rw [Ideal.exp2_coe, two_pow_scaled]
  have he : ∀ t, Ideal.exp (Ideal.div (z t : EReal) ((Real.sqrt 2048 : ℝ) : EReal) - (M : EReal))
      = ((Real.exp (z t * (1 / Real.sqrt 2048)) * Real.exp (-M) : ℝ) : EReal) := fun t => by
    rw [Ideal.div_coe hs, ← EReal.coe_mul, ← EReal.coe_sub, Ideal.exp_coe, sub_eq_add_neg, Real.exp_add]
  simp only [hp, he, sum_real]
  generalize hP : (fun t => Real.exp (z t * (1 / Real.sqrt 2048))) = P
  have hP' : ∀ t, Real.exp (z t * (1 / Real.sqrt 2048)) = P t := fun t => congrFun hP t
  simp only [hP']
  have hpos : ∀ t, 0 < P t := fun t => by rw [← hP']; exact Real.exp_pos _
  have hN : 0 < ∑ t, P t := Finset.sum_pos (fun t _ => hpos t) ⟨0, Finset.mem_univ _⟩
  have hE : 0 < Real.exp (-M) := Real.exp_pos _
  rw [Ideal.div_coe hN.ne', one_mul, sum_mul_real _ _ _ (by positivity)]
  refine Finset.sum_congr rfl fun t _ => ?_
  rw [← Finset.sum_mul, Ideal.div_coe (mul_pos hN hE).ne', ← EReal.coe_mul]
  rw [show P t * Real.exp (-M) * (1 / ((∑ i, P i) * Real.exp (-M))) = P t * (1 / ∑ i, P i) by field_simp,
    EReal.coe_mul, mul_assoc, mul_assoc, mul_comm (v t)]

/-! ## The two programs' results, element by element -/

/-- A vector of extended reals. -/
abbrev A1 (a : ℕ) := (⟨1, ![a]⟩ : Shape).Idx → EReal
/-- A matrix of extended reals. -/
abbrev A2 (a b : ℕ) := (⟨2, ![a, b]⟩ : Shape).Idx → EReal
/-- A three-dimensional array of extended reals. -/
abbrev A3 (a b c : ℕ) := (⟨3, ![a, b, c]⟩ : Shape).Idx → EReal

/-- A head's projection of the input (its queries, keys or values): `x W + b`, at batch, head, position and feature. -/
def lin (x : A3 2 2048 1024) (W : A3 16 1024 64) (w : A2 16 64) (b : Fin 2) (h : Fin 16) (s : Fin 2048) (e : Fin 64) : EReal :=
  ∑ d : Fin 1024, W (ix3 h d e) * x (ix3 b s d) + w (ix2 h e)

/-- The score of a query row and a key row: their inner product. -/
def dot (q k : Fin 2048 → Fin 64 → EReal) (s t : Fin 2048) : EReal := ∑ e : Fin 64, q s e * k t e

/-- One head as the reference computes it: the softmax of the scores over √2048, less the row's greatest, times the values. -/
def headR (q k v : Fin 2048 → Fin 64 → EReal) (s : Fin 2048) (e : Fin 64) : EReal :=
  ∑ t : Fin 2048,
    Ideal.div (Ideal.exp (Ideal.div (dot q k s t) ((Real.sqrt 2048 : ℝ) : EReal)
        - Finset.univ.fold max ⊥ fun u => Ideal.div (dot q k s u) ((Real.sqrt 2048 : ℝ) : EReal)))
      (∑ u : Fin 2048, Ideal.exp (Ideal.div (dot q k s u) ((Real.sqrt 2048 : ℝ) : EReal)
        - Finset.univ.fold max ⊥ fun u => Ideal.div (dot q k s u) ((Real.sqrt 2048 : ℝ) : EReal))) * v t e

/-- One head as the kernel computes it: powers of two of the scores of the scaled queries, times the values, over their sum. -/
def headK (q k v : Fin 2048 → Fin 64 → EReal) (s : Fin 2048) (e : Fin 64) : EReal :=
  (∑ t : Fin 2048, Ideal.exp2 (∑ e' : Fin 64, q s e' * (scale : EReal) * k t e') * v t e)
    * Ideal.div 1 (∑ t : Fin 2048, Ideal.exp2 (∑ e' : Fin 64, q s e' * (scale : EReal) * k t e'))

/-- Where the queries and the keys are real numbers the two heads are equal, whatever the values are. -/
theorem head_eq (q k : Fin 2048 → Fin 64 → ℝ) (v : Fin 2048 → Fin 64 → EReal) (s : Fin 2048) (e : Fin 64) :
    headK (fun s e => (q s e : EReal)) (fun s e => (k s e : EReal)) v s e
      = headR (fun s e => (q s e : EReal)) (fun s e => (k s e : EReal)) v s e := by
  have hs : Real.sqrt 2048 ≠ 0 := (Real.sqrt_pos.mpr (by norm_num)).ne'
  have hd : ∀ t, dot (fun s e => (q s e : EReal)) (fun s e => (k s e : EReal)) s t = ((∑ e, q s e * k t e : ℝ) : EReal) := fun t => by
    simp only [dot, ← EReal.coe_mul, sum_real]
  have hk : ∀ t, ∑ e' : Fin 64, (q s e' : EReal) * (scale : EReal) * (k t e' : EReal) = (((∑ e, q s e * k t e) * scale : ℝ) : EReal) := fun t => by
    simp only [← EReal.coe_mul, sum_real, Finset.sum_mul]
    exact congrArg _ (Finset.sum_congr rfl fun _ _ => by ring)
  unfold headK headR
  simp only [hd, hk]
  obtain ⟨M, hM⟩ := fold_max_real fun u => (∑ e, q s e * k u e) * (1 / Real.sqrt 2048)
  have hM' : (Finset.univ.fold max ⊥ fun u => Ideal.div ((∑ e, q s e * k u e : ℝ) : EReal) ((Real.sqrt 2048 : ℝ) : EReal)) = (M : EReal) := by
    rw [← hM]
    exact congrArg (Finset.univ.fold max ⊥) (funext fun u => by rw [Ideal.div_coe hs, EReal.coe_mul])
  rw [hM']
  exact row_eq (fun t => ∑ e, q s e * k t e) (fun t => v t e) M

/-- The output projection over all heads: the heads side by side, times the weights, plus the bias. -/
def out (H : Fin 16 → Fin 64 → EReal) (P : A2 1024 1024) (p : A1 1024) (n : Fin 1024) : EReal :=
  ∑ x : Fin 1024, H ⟨x / 64, by omega⟩ ⟨x % 64, by omega⟩ * P (ix2 x n) + p (ix1 n)

/-- The same, summed head by head: what the kernel's sixteen products add up to. -/
theorem out_eq (H : Fin 16 → Fin 64 → EReal) (P : A2 1024 1024) (p : A1 1024) (n : Fin 1024) :
    out H P p n = ∑ h : Fin 16, ∑ e : Fin 64, H h e * P (ix2 ⟨64 * h + e, by omega⟩ n) + p (ix1 n) := by
  unfold out
  congr 1
  rw [← Finset.sum_product', Finset.univ_product_univ]
  refine Finset.sum_bij' (fun x _ => (⟨x / 64, by omega⟩, ⟨x % 64, by omega⟩)) (fun y _ => ⟨64 * y.1 + y.2, by omega⟩)
    (fun _ _ => Finset.mem_univ _) (fun _ _ => Finset.mem_univ _) (fun x _ => Fin.ext (Nat.div_add_mod _ _))
    (fun y _ => Prod.ext (Fin.ext ?_) (Fin.ext ?_)) fun x _ => ?_
  · show (64 * y.1.val + y.2.val) / 64 = y.1.val; omega
  · show (64 * y.1.val + y.2.val) % 64 = y.2.val; omega
  · congr 3; exact Fin.ext (Nat.div_add_mod _ _).symm

end Cert.Attn

end
-- ==== Proof.AttnBlock.lean ====
/-
  The attention kernel's block, element by element: the joint projection of the point's four heads, and each of its eight
  stores (a head's half of the positions) as attention of that head's columns of the projection.
-/
module

public import proofs.«01_k».proof.Proof.Math
public import proofs.«01_k».proof.Proof.Gen.KernelIdeal.Skeleton

@[expose] public section

set_option maxRecDepth 16384

noncomputable section

namespace Cert.KernelIdeal.At

open Cert.KernelIdeal Cert.KernelIdeal.Gen Idealize.ShloMosaic Idealize.ShloMosaic.TcCoe Cert.Attn

/-- Columns `a …, a + 63` of the joint projection: the queries, keys or values of one head. -/
def cols (M : FVec Ideal S2048x768 .f32) (a : ℕ) (ha : a + 64 ≤ 768) (s : Fin 2048) (e : Fin 64) : EReal := M (ix2 s ⟨a + e, by omega⟩)

/-- The joint projection of the point's four heads at an element. -/
theorem qkv_apply (x : FVec Ideal S1x2048x1024 .bf16) (W : FVec Ideal S1x1024x768 .bf16) (w : FVec Ideal S1x1x768 .f32)
    (s : Fin 2048) (a : Fin 768) :
    k0_pay2 (F := Ideal) x W w (ix2 s a) = ∑ d : Fin 1024, x (ix3 0 s d) * W (ix3 0 d a) + w (ix3 0 0 a) := by
  pointwise [k0_pay2]

/-- One store of the kernel, for any head and half: attention of the queries' rows from `o` on, the queries, keys and values being
    the columns of the joint projection from `a`, `a'` and `a''` on. -/
def store (M : FVec Ideal S2048x768 .f32) (a a' a'' o : ℕ) (ha : S2048x768.Slices ![0, a] S2048x64)
    (ha' : S2048x768.Slices ![0, a'] S2048x64) (ha'' : S2048x768.Slices ![0, a''] S2048x64) (ho : S2048x64.Slices ![o, 0] S1024x64) :
    FVec Ideal S1x1x1024x64 .bf16 :=
  let q : FVec Ideal S2048x64 .bf16 := truncf .bf16 (mulf (extractStridedSlice S2048x64 ![0, a] M ha)
    (broadcast S2048x64 (Named.named κ "log2e_over_sqrt_s" 0x3D0293EE#32))) bitsLt_bf16_f32
  let k : FVec Ideal S2048x64 .bf16 := truncf .bf16 (extractStridedSlice S2048x64 ![0, a'] M ha') bitsLt_bf16_f32
  let v : FVec Ideal S2048x64 .bf16 := truncf .bf16 (extractStridedSlice S2048x64 ![0, a''] M ha'') bitsLt_bf16_f32
  let p : FVec Ideal S1024x2048 .f32 := exp2 (matmul dot_S1024x64_S2048x64_S1024x2048_1_1_0_0_n_n none
    (extractStridedSlice S1024x64 ![o, 0] q ho) k (constant S1024x2048 .f32 0x00000000#32))
  shapeCast S1x1x1024x64 (truncf .bf16 (mulf
      (matmul dot_S1024x2048_S2048x64_S1024x64_1_0_0_1_n_n none (truncf .bf16 p bitsLt_bf16_f32) v (constant S1024x64 .f32 0x00000000#32))
      (broadcastTo S1024x64 (divf (broadcast S1024x1 (Scalar.ofBits .f32 0x3F800000#32))
        (shapeCast S1024x1 (multiReduction .add [1] S1024 p 0x00000000#32 reduces_S1024x2048_S1024 (.inl rfl) rfl) shapeCasts_S1024_S1024x1))
        broadcasts_S1024x1_S1024x64)) bitsLt_bf16_f32) shapeCasts_S1024x64_S1x1x1024x64

/-- The kernel's named constant, read at the ideal instance, is the number it stands for. -/
theorem named_scale : (Named.named κ "log2e_over_sqrt_s" 0x3D0293EE#32 : Ideal .f32) = (scale : EReal) := rfl

/-- A store at an element is the head's attention at the row it stands for. -/
theorem store_apply (M : FVec Ideal S2048x768 .f32) (a a' a'' o : ℕ) (ha : S2048x768.Slices ![0, a] S2048x64)
    (ha' : S2048x768.Slices ![0, a'] S2048x64) (ha'' : S2048x768.Slices ![0, a''] S2048x64) (ho : S2048x64.Slices ![o, 0] S1024x64)
    (la : a + 64 ≤ 768) (la' : a' + 64 ≤ 768) (la'' : a'' + 64 ≤ 768) (lo : o + 1024 ≤ 2048) (r : Fin 1024) (e : Fin 64) :
    store M a a' a'' o ha ha' ha'' ho (ix4 0 0 r e)
      = headK (cols M a la) (cols M a' la') (cols M a'' la'') ⟨o + r, by omega⟩ e := by
  pointwise [store, headK, cols, named_scale]
  rfl

end Cert.KernelIdeal.At

end
-- ==== Proof.AttnOut.lean ====
/-
  The attention kernel's block as one array: the eight stores tile it, and every element of it is the attention of its head at
  its position.
-/
module

public import proofs.«01_k».proof.Proof.AttnBlock
public import proofs.«01_k».proof.Proof.Gen.KernelIdeal.Frame

@[expose] public section

set_option maxRecDepth 16384

noncomputable section

namespace Cert.KernelIdeal.At

open Cert.KernelIdeal Cert.KernelIdeal.Gen Idealize.ShloMosaic Idealize.ShloMosaic.TcCoe Cert.Attn

/-- Attention of the four heads of a joint projection: head `j`'s queries, keys and values are the columns from `192 j`, `192 j + 64` and
    `192 j + 128` on. -/
def fourHeads (M : FVec Ideal S2048x768 .f32) (j : Fin 4) (s : Fin 2048) (e : Fin 64) : EReal :=
  headK (cols M (192 * j) (by omega)) (cols M (192 * j + 64) (by omega)) (cols M (192 * j + 128) (by omega)) s e

/-- The same as an array of the block's shape. -/
def blockOf (M : FVec Ideal S2048x768 .f32) : Vec Ideal S1x4x2048x64 .bf16 := fun i => fourHeads M (i 1) (i 2) (i 3)

/-- A store of head `j`'s half from `o` on is that part of the block. -/
theorem piece_eq (M : FVec Ideal S2048x768 .f32) (j : Fin 4) (o : ℕ) (lo : o + 1024 ≤ 2048)
    (ha : S2048x768.Slices ![0, 192 * j] S2048x64) (ha' : S2048x768.Slices ![0, 192 * j + 64] S2048x64)
    (ha'' : S2048x768.Slices ![0, 192 * j + 128] S2048x64) (ho : S2048x64.Slices ![o, 0] S1024x64)
    (inb : ∀ a, (![0, (j : ℕ), o, 0] : Fin 4 → ℕ) a + S1x1x1024x64.size a ≤ S1x4x2048x64.size a) (x : S1x1x1024x64.Idx) :
    store M (192 * j) (192 * j + 64) (192 * j + 128) o ha ha' ha'' ho x
      = blockOf M ((Rect.unit (s := S1x4x2048x64) ![0, j, o, 0] S1x1x1024x64.size inb).emb x) := by
  obtain ⟨x0, x1, r, e, rfl⟩ : ∃ (x0 : Fin 1) (x1 : Fin 1) (r : Fin 1024) (e : Fin 64), x = ix4 x0 x1 r e := ⟨x 0, x 1, x 2, x 3, by idx_vars x⟩
  obtain rfl := Subsingleton.elim x0 0
  obtain rfl := Subsingleton.elim x1 0
  rw [store_apply M _ _ _ _ ha ha' ha'' ho (by omega) (by omega) (by omega) lo]
  show fourHeads M j _ e = fourHeads M _ _ _
  congr 1
  · apply Fin.ext
    show o + (r : ℕ) = o + 1 * r
    omega
  · apply Fin.ext
    show (e : ℕ) = 0 + 1 * e
    omega

/-- What the attention kernel's body leaves in its output block. -/
theorem out0_eq (x0 : Vec Ideal S1x2048x1024 .bf16) (x1 : Vec Ideal S1x1024x768 .bf16) (x2 : Vec Ideal S1x1x768 .f32) :
    out0_3 x0 x1 x2 = blockOf (k0_pay2 x0 x1 x2) := by
  have hz : (![0, 0, 0] : Fin 3 → ℕ) = fun _ => 0 := by funext a; fin_cases a <;> rfl
  have e0 : View.ld x0 r0_0 = x0 := View.ld_unit_zero hz _ _
  have e1 : View.ld x1 r0_1 = x1 := View.ld_unit_zero hz _ _
  have e2 : View.ld x2 r0_2 = x2 := View.ld_unit_zero hz _ _
  unfold out0_3 k0_pay31
  rw [e0, e1, e2]
  set M := k0_pay2 x0 x1 x2 with hM
  funext y
  refine View.canon_apply_of_pieces (blockOf M) _ ?_ y (cover0_3 _ _ _ _ _ _ _ _ y)
  simp only [List.forall_mem_cons, List.not_mem_nil, false_imp_iff, implies_true, and_true]
  exact ⟨fun x => piece_eq M 3 1024 (by omega) _ _ _ _ _ x, fun x => piece_eq M 3 0 (by omega) _ _ _ _ _ x,
    fun x => piece_eq M 2 1024 (by omega) _ _ _ _ _ x, fun x => piece_eq M 2 0 (by omega) _ _ _ _ _ x,
    fun x => piece_eq M 1 1024 (by omega) _ _ _ _ _ x, fun x => piece_eq M 1 0 (by omega) _ _ _ _ _ x,
    fun x => piece_eq M 0 1024 (by omega) _ _ _ _ _ x, fun x => piece_eq M 0 0 (by omega) _ _ _ _ _ x⟩

end Cert.KernelIdeal.At

end
-- ==== Proof.ProjOut.lean ====
/-
  The projection kernel's block, element by element: the sum over the sixteen heads of the head's product with its rows of the
  output weights, plus the output bias.
-/
module

public import proofs.«01_k».proof.Proof.Math
public import proofs.«01_k».proof.Proof.Gen.KernelIdeal.Frame
public import Idealize.ShloMosaic.Lib.Pipeline.ValueKit.Tiles

@[expose] public section

set_option maxRecDepth 16384

noncomputable section

namespace Cert.KernelIdeal.At

open Cert.KernelIdeal Cert.KernelIdeal.Gen Idealize.ShloMosaic Idealize.ShloMosaic.TcCoe Cert.Attn

/-- A head's part of the block: its output times its rows of the output weights. -/
def part (a : Vec Ideal S1x1x1024x64 .bf16) (w : Vec Ideal S1x64x1024 .bf16) : FVec Ideal S1024x1024 .f32 :=
  matmul (φ₁ := .bf16) (φ₂ := .bf16) dot_S1024x64_S64x1024_S1024x1024_1_0_0_1_n_n none
    (shapeCast S1024x64 a shapeCasts_S1x1x1024x64_S1024x64) (shapeCast S64x1024 w shapeCasts_S1x64x1024_S64x1024)
    (constant S1024x1024 .f32 0x00000000#32)

/-- A head's part at an element. -/
theorem part_apply (a : Vec Ideal S1x1x1024x64 .bf16) (w : Vec Ideal S1x64x1024 .bf16) (r n : Fin 1024) :
    part a w (ix2 r n) = ∑ e : Fin 64, a (ix4 0 0 r e) * w (ix3 0 e n) := by
  pointwise [part]

/-- Head `h`'s part of the block, its output and weights read off the inputs' blocks. -/
def partAt (x0 : Vec Ideal S1x16x1024x64 .bf16) (x1 : Vec Ideal S16x64x1024 .bf16) (h : ℕ)
    (h0 : ∀ a, (![0, h, 0, 0] : Fin 4 → ℕ) a + S1x1x1024x64.size a ≤ S1x16x1024x64.size a)
    (h1 : ∀ a, (![h, 0, 0] : Fin 3 → ℕ) a + S1x64x1024.size a ≤ S16x64x1024.size a) : FVec Ideal S1024x1024 .f32 :=
  part (View.ld x0 (Rect.unit (s := S1x16x1024x64) ![0, h, 0, 0] S1x1x1024x64.size h0))
    (View.ld x1 (Rect.unit (s := S16x64x1024) ![h, 0, 0] S1x64x1024.size h1))

/-- Head `h`'s part at an element of the block. -/
theorem partAt_apply (x0 : Vec Ideal S1x16x1024x64 .bf16) (x1 : Vec Ideal S16x64x1024 .bf16) (h : Fin 16)
    (h0 : ∀ a, (![0, (h : ℕ), 0, 0] : Fin 4 → ℕ) a + S1x1x1024x64.size a ≤ S1x16x1024x64.size a)
    (h1 : ∀ a, (![(h : ℕ), 0, 0] : Fin 3 → ℕ) a + S1x64x1024.size a ≤ S16x64x1024.size a) (r n : Fin 1024) :
    partAt x0 x1 h h0 h1 (ix2 r n) = ∑ e : Fin 64, x0 (ix4 0 h r e) * x1 (ix3 h e n) := by
  rw [partAt, part_apply]
  refine Finset.sum_congr rfl fun e _ => ?_
  congr 1
  · refine View.ld_unit_apply_of _ _ _ _ _ _ fun a => ?_
    match a with
    | ⟨0, _⟩ => rfl
    | ⟨1, _⟩ => rfl
    | ⟨2, _⟩ => exact (Nat.zero_add _).symm
    | ⟨3, _⟩ => exact (Nat.zero_add _).symm
  · refine View.ld_unit_apply_of _ _ _ _ _ _ fun a => ?_
    match a with
    | ⟨0, _⟩ => rfl
    | ⟨1, _⟩ => exact (Nat.zero_add _).symm
    | ⟨2, _⟩ => exact (Nat.zero_add _).symm

/-- The block's last addition: the bias along every row, and the leading unit axis put back. -/
def addBias (z : FVec Ideal S1024x1024 .f32) (x2 : Vec Ideal S1x1024 .f32) : FVec Ideal S1x1024x1024 .f32 :=
  shapeCast S1x1024x1024 (addf z (broadcastTo S1024x1024 (shapeCast S1x1024 x2 shapeCasts_S1x1024_S1x1024)
    broadcasts_S1x1024_S1024x1024)) shapeCasts_S1024x1024_S1x1024x1024

/-- The last addition at an element. -/
theorem addBias_apply (z : FVec Ideal S1024x1024 .f32) (x2 : Vec Ideal S1x1024 .f32) (r n : Fin 1024) :
    addBias z x2 (ix3 0 r n) = z (ix2 r n) + x2 (ix2 0 n) := by
  pointwise [addBias]

/-- The heads' parts added up from the first on, at an element. -/
theorem chain_apply (f : Fin 16 → FVec Ideal S1024x1024 .f32) (i : S1024x1024.Idx) :
    addf (addf (addf (addf (addf (addf (addf (addf (addf (addf (addf (addf (addf (addf (addf (f 0) (f 1)) (f 2)) (f 3)) (f 4)) (f 5))
      (f 6)) (f 7)) (f 8)) (f 9)) (f 10)) (f 11)) (f 12)) (f 13)) (f 14)) (f 15) i = ∑ h : Fin 16, f h i := by
  simp only [Fin.sum_univ_castSucc, Fin.sum_univ_zero, zero_add]
  rfl

/-- A head's rows lie inside the block of heads. -/
theorem rows_in (h : Fin 16) (a : Fin 4) : (![0, (h : ℕ), 0, 0] : Fin 4 → ℕ) a + S1x1x1024x64.size a ≤ S1x16x1024x64.size a := by
  revert h a; decide

/-- A head's weights lie inside the output weights. -/
theorem weights_in (h : Fin 16) (a : Fin 3) : (![(h : ℕ), 0, 0] : Fin 3 → ℕ) a + S1x64x1024.size a ≤ S16x64x1024.size a := by
  revert h a; decide

/-- What the projection kernel's body leaves in its output block, at an element. -/
theorem out1_apply (x0 : Vec Ideal S1x16x1024x64 .bf16) (x1 : Vec Ideal S16x64x1024 .bf16) (x2 : Vec Ideal S1x1024 .f32) (r n : Fin 1024) :
    out1_3 x0 x1 x2 (ix3 0 r n) = (∑ h : Fin 16, ∑ e : Fin 64, x0 (ix4 0 h r e) * x1 (ix3 h e n)) + x2 (ix2 0 n) := by
  let f : Fin 16 → FVec Ideal S1024x1024 .f32 := fun h => partAt x0 x1 h (rows_in h) (weights_in h)
  have hz : (![0, 0, 0] : Fin 3 → ℕ) = fun _ => 0 := by funext a; fin_cases a <;> rfl
  have hz2 : (![0, 0] : Fin 2 → ℕ) = fun _ => 0 := by funext a; fin_cases a <;> rfl
  have h : out1_3 x0 x1 x2 = addBias (addf (addf (addf (addf (addf (addf (addf (addf (addf (addf (addf (addf (addf (addf (addf (f 0) (f 1))
      (f 2)) (f 3)) (f 4)) (f 5)) (f 6)) (f 7)) (f 8)) (f 9)) (f 10)) (f 11)) (f 12)) (f 13)) (f 14)) (f 15)) x2 := by
    unfold out1_3
    rw [View.canon_unit_zero hz, View.ld_unit_zero hz2]
    rfl
  rw [h, addBias_apply, chain_apply]
  congr 1
  exact Finset.sum_congr rfl fun h _ => partAt_apply x0 x1 h _ _ r n

end Cert.KernelIdeal.At

end
-- ==== Proof.Regions.lean ====
/-
  The two result arrays of the kernel's launches, each from the arrays its launch finds: the heads' outputs, and the projected
  rows.
-/
module

public import proofs.«01_k».proof.Proof.AttnOut
public import proofs.«01_k».proof.Proof.ProjOut
public import Idealize.ShloMosaic.Lib.Pipeline.ValueKit.Geometry

@[expose] public section

set_option maxRecDepth 16384

noncomputable section

namespace Cert.KernelIdeal.At

open Cert.KernelIdeal Cert.KernelIdeal.Gen Idealize.ShloMosaic Idealize.ShloMosaic.TcCoe Cert.Attn
open Idealize.ShloMosaic.Pipeline (Dat)

variable (V : (c : Dev nD) → (b : Ref sig .tc) → Buf (Elt Ideal) ((c : Thread nD τ).loc b))

/-- A joint projection of one head's queries, keys or values, out of the packed weights: group `g`'s columns from `a` on. -/
def packed (x : FVec Ideal S2x2048x1024 .bf16) (W : FVec Ideal S4x1024x768 .bf16) (w : FVec Ideal S4x1x768 .f32)
    (b : Fin 2) (g : Fin 4) (a : ℕ) (ha : a + 64 ≤ 768) (s : Fin 2048) (e : Fin 64) : EReal :=
  ∑ d : Fin 1024, x (ix3 b s d) * W (ix3 g d ⟨a + e, by omega⟩) + w (ix3 g 0 ⟨a + e, by omega⟩)

/-- Head `4 g + j`'s output out of the packed weights. -/
def headOf (x : FVec Ideal S2x2048x1024 .bf16) (W : FVec Ideal S4x1024x768 .bf16) (w : FVec Ideal S4x1x768 .f32)
    (b : Fin 2) (g j : Fin 4) (s : Fin 2048) (e : Fin 64) : EReal :=
  headK (packed x W w b g (192 * j) (by omega)) (packed x W w b g (192 * j + 64) (by omega)) (packed x W w b g (192 * j + 128) (by omega)) s e

/-- The heads' outputs, as the array the first launch leaves. -/
def attnArr (x : FVec Ideal S2x2048x1024 .bf16) (W : FVec Ideal S4x1024x768 .bf16) (w : FVec Ideal S4x1x768 .f32) :
    FVec Ideal S2x16x2048x64 .bf16 := fun i =>
  headOf x W w (i 0) ⟨(i 1 : ℕ) / 4, Nat.div_lt_of_lt_mul (i 1).isLt⟩ ⟨(i 1 : ℕ) % 4, Nat.mod_lt _ (by decide)⟩ (i 2) (i 3)

/-- A point of the first grid is a batch element `b` and a group `g` of four heads: the blocks its windows are at. -/
theorem point0 : ∀ t : Fin grid0.N, ∃ b : Fin 2, ∃ g : Fin 4,
    (win0_0.index t 0 = b ∧ win0_0.index t 1 = 0 ∧ win0_0.index t 2 = 0)
    ∧ (win0_1.index t 0 = g ∧ win0_1.index t 1 = 0 ∧ win0_1.index t 2 = 0)
    ∧ (win0_2.index t 0 = g ∧ win0_2.index t 1 = 0 ∧ win0_2.index t 2 = 0)
    ∧ win0_3.index t 0 = b ∧ win0_3.index t 1 = g ∧ win0_3.index t 2 = 0 ∧ win0_3.index t 3 = 0 := by
  decide +kernel

/-- A block of the first launch, from the blocks its inputs are: the heads' outputs at batch element `b` and group `g`. -/
theorem fourHeads_eq (x0 : FVec Ideal S1x2048x1024 .bf16) (x1 : FVec Ideal S1x1024x768 .bf16) (x2 : FVec Ideal S1x1x768 .f32)
    (x : FVec Ideal S2x2048x1024 .bf16) (W : FVec Ideal S4x1024x768 .bf16) (w : FVec Ideal S4x1x768 .f32) (b : Fin 2) (g : Fin 4)
    (hx : ∀ (s : Fin 2048) (d : Fin 1024), x0 (ix3 0 s d) = x (ix3 b s d))
    (hW : ∀ (d : Fin 1024) (a : Fin 768), x1 (ix3 0 d a) = W (ix3 g d a))
    (hw : ∀ a : Fin 768, x2 (ix3 0 0 a) = w (ix3 g 0 a)) (j : Fin 4) (s : Fin 2048) (e : Fin 64) :
    fourHeads (k0_pay2 x0 x1 x2) j s e = headOf x W w b g j s e := by
  have hcols : ∀ (a : ℕ) (ha : a + 64 ≤ 768), cols (k0_pay2 x0 x1 x2) a ha = packed x W w b g a ha := fun a ha => by
    funext s e
    rw [cols, qkv_apply, packed]
    simp only [hx, hW, hw]
  rw [fourHeads, headOf, hcols, hcols, hcols]

/-- The heads' outputs at a group and a head of it. -/
theorem attnArr_apply (x : FVec Ideal S2x2048x1024 .bf16) (W : FVec Ideal S4x1024x768 .bf16) (w : FVec Ideal S4x1x768 .f32)
    (b : Fin 2) (g j : Fin 4) (s : Fin 2048) (e : Fin 64) :
    attnArr x W w (ix4 b ⟨4 * g + j, by omega⟩ s e) = headOf x W w b g j s e := by
  show headOf x W w b ⟨(4 * (g : ℕ) + j) / 4, _⟩ ⟨(4 * (g : ℕ) + j) % 4, _⟩ s e = _
  congr 1
  · exact Fin.ext (by show (4 * (g : ℕ) + j) / 4 = g; omega)
  · exact Fin.ext (by show (4 * (g : ℕ) + j) % 4 = j; omega)

/-- The first launch leaves the heads' outputs. -/
theorem attn_arr (c : Dev nD) : (dat0 V c).arrAt 3 cfg0.N = attnArr (V c main_v7) (V c main_v4) (V c main_v6) := by
  refine (dat0 V c).arrAt_eq_of_covers 3 _ (by decide +kernel) fun t hf y => ?_
  blk_simp
  rw [after0_3, out0_eq]
  obtain ⟨b, g, ⟨h00, h01, h02⟩, ⟨h10, h11, h12⟩, ⟨h20, h21, h22⟩, h30, h31, h32, h33⟩ := point0 t
  have hx : ∀ (s : Fin 2048) (d : Fin 1024), iblk0 V c 0 t (ix3 0 s d) = V c main_v7 (ix3 b s d) := fun s d => by
    blk_ext [iblk0, h00, h01, h02]
  have hW : ∀ (d : Fin 1024) (a : Fin 768), iblk0 V c 1 t (ix3 0 d a) = V c main_v4 (ix3 g d a) := fun d a => by
    blk_ext [iblk0, h10, h11, h12]
  have hw : ∀ a : Fin 768, iblk0 V c 2 t (ix3 0 0 a) = V c main_v6 (ix3 g 0 a) := fun a => by
    blk_ext [iblk0, h20, h21, h22]
  obtain ⟨y0, j, s, e, rfl⟩ : ∃ (y0 : Fin 1) (j : Fin 4) (s : Fin 2048) (e : Fin 64), y = ix4 y0 j s e :=
    ⟨y 0, y 1, y 2, y 3, by idx_vars y⟩
  have hemb : (win0_3.blk t).view.emb (ix4 y0 j s e) = ix4 b ⟨4 * g + j, by omega⟩ s e := by
    blk_ext [h30, h31, h32, h33]
  rw [hemb, attnArr_apply]
  exact fourHeads_eq _ _ _ _ _ _ b g hx hW hw j s e

/-- A point of the second grid is a batch element `b` and a half `o` of the positions: the blocks its windows are at. -/
theorem point1 : ∀ t : Fin grid1.N, ∃ b : Fin 2, ∃ o : Fin 2,
    (win1_0.index t 0 = b ∧ win1_0.index t 1 = 0 ∧ win1_0.index t 2 = o ∧ win1_0.index t 3 = 0)
    ∧ (win1_1.index t 0 = 0 ∧ win1_1.index t 1 = 0 ∧ win1_1.index t 2 = 0)
    ∧ (win1_2.index t 0 = 0 ∧ win1_2.index t 1 = 0)
    ∧ win1_3.index t 0 = 2 * (b : ℕ) + o ∧ win1_3.index t 1 = 0 ∧ win1_3.index t 2 = 0 := by
  decide +kernel

/-- The projected rows, as the array the second launch leaves: row block `2 b + o` is the batch element `b`'s half `o`. -/
def projArr (H : FVec Ideal S2x16x2048x64 .bf16) (P : FVec Ideal S16x64x1024 .bf16) (p : FVec Ideal S1x1024 .f32) :
    FVec Ideal S4x1024x1024 .f32 := fun i =>
  (∑ h : Fin 16, ∑ e : Fin 64,
      H (ix4 ⟨(i 0 : ℕ) / 2, Nat.div_lt_of_lt_mul (i 0).isLt⟩ h
          ⟨1024 * ((i 0 : ℕ) % 2) + (i 1 : ℕ), by have h1 : (i 1 : ℕ) < 1024 := (i 1).isLt; omega⟩ e)
        * P (ix3 h e (i 2)))
    + p (ix2 0 (i 2))

/-- A block of the second launch, from the blocks its inputs are: the projected rows of batch element `b`'s half `o`. -/
theorem out1_eq (x0 : FVec Ideal S1x16x1024x64 .bf16) (x1 : FVec Ideal S16x64x1024 .bf16) (x2 : FVec Ideal S1x1024 .f32)
    (H : FVec Ideal S2x16x2048x64 .bf16) (P : FVec Ideal S16x64x1024 .bf16) (p : FVec Ideal S1x1024 .f32) (b o : Fin 2) (r n : Fin 1024)
    (hH : ∀ (h : Fin 16) (e : Fin 64), x0 (ix4 0 h r e) = H (ix4 b h ⟨1024 * (o : ℕ) + r, by omega⟩ e))
    (hP : ∀ (h : Fin 16) (e : Fin 64), x1 (ix3 h e n) = P (ix3 h e n)) (hp : x2 (ix2 0 n) = p (ix2 0 n)) :
    out1_3 (F := Ideal) x0 x1 x2 (ix3 0 r n) = projArr H P p (ix3 ⟨2 * (b : ℕ) + o, by omega⟩ r n) := by
  rw [out1_apply]
  simp only [hH, hP, hp]
  show _ = (∑ h : Fin 16, ∑ e : Fin 64, H (ix4 ⟨(2 * (b : ℕ) + o) / 2, _⟩ h ⟨1024 * ((2 * (b : ℕ) + o) % 2) + r, _⟩ e)
    * P (ix3 h e n)) + p (ix2 0 n)
  have e1 : (⟨(2 * (b : ℕ) + o) / 2, by omega⟩ : Fin 2) = b := Fin.ext (by show (2 * (b : ℕ) + o) / 2 = b; omega)
  have e2 : (⟨1024 * ((2 * (b : ℕ) + o) % 2) + r, by omega⟩ : Fin 2048) = ⟨1024 * (o : ℕ) + r, by omega⟩ :=
    Fin.ext (by show 1024 * ((2 * (b : ℕ) + o) % 2) + (r : ℕ) = 1024 * (o : ℕ) + r; omega)
  rw [e1, e2]

/-- The second launch leaves the projected rows. -/
theorem proj_arr (c : Dev nD) : (dat1 V c).arrAt 3 cfg1.N = projArr (V c main_v8) (V c main_v10) (V c main_v11) := by
  refine (dat1 V c).arrAt_eq_of_covers 3 _ (by decide +kernel) fun t hf y => ?_
  blk_simp
  rw [after1_3]
  obtain ⟨b, o, ⟨h00, h01, h02, h03⟩, ⟨h10, h11, h12⟩, ⟨h20, h21⟩, h30, h31, h32⟩ := point1 t
  obtain ⟨y0, r, n, rfl⟩ : ∃ (y0 : Fin 1) (r n : Fin 1024), y = ix3 y0 r n := ⟨y 0, y 1, y 2, by idx_vars y⟩
  obtain rfl := Subsingleton.elim y0 0
  have hH : ∀ (h : Fin 16) (e : Fin 64), iblk1 V c 0 t (ix4 0 h r e) = V c main_v8 (ix4 b h ⟨1024 * (o : ℕ) + r, by omega⟩ e) := fun h e => by
    blk_ext [iblk1, h00, h01, h02, h03]
  have hP : ∀ (h : Fin 16) (e : Fin 64), iblk1 V c 1 t (ix3 h e n) = V c main_v10 (ix3 h e n) := fun h e => by
    blk_ext [iblk1, h10, h11, h12]
  have hp : iblk1 V c 2 t (ix2 0 n) = V c main_v11 (ix2 0 n) := by
    blk_ext [iblk1, h20, h21]
  have hemb : (win1_3.blk t).view.emb (ix3 0 r n) = ix3 ⟨2 * (b : ℕ) + o, by omega⟩ r n := by
    blk_ext [h30, h31, h32]
  rw [hemb]
  exact out1_eq _ _ _ _ _ _ b o r n hH hP hp

end Cert.KernelIdeal.At

end
-- ==== Proof.HostArrays.lean ====
/-
  The arrays the kernel's host code lays out for its launches: the packed weights and biases, read back as each head's own; the
  output weights and bias; and the final reshape.
-/
module

public import proofs.«01_k».proof.Proof.Regions
public import Idealize.ShloMosaic.Lib.StableHlo.ReadAt

@[expose] public section

set_option maxRecDepth 16384

noncomputable section

namespace Cert.KernelIdeal.At

open Cert.KernelIdeal Cert.KernelIdeal.Gen Idealize.ShloMosaic Idealize.ShloMosaic.TcCoe Cert.Attn
open Idealize.ShloMosaic.StableHlo

/-- The packed weights: every head's query, key and value weights side by side, four heads to a group. -/
def packW (q k v : FVec Ideal S16x1024x64 .f32) : FVec Ideal S4x1024x768 .bf16 :=
  shapeCast S4x1024x768 (transpose S4x1024x4x192 [0, 2, 1, 3]
    (shapeCast S4x4x1024x192 (truncf .bf16 (concatenate S16x1024x192 2 [⟨S16x1024x64, q⟩, ⟨S16x1024x64, k⟩, ⟨S16x1024x64, v⟩]
        concatenates_S16x1024x64_S16x1024x64_S16x1024x64_S16x1024x192_d2) bitsLt_bf16_f32)
      shapeCasts_S16x1024x192_S4x4x1024x192)
    transposes_S4x4x1024x192_S4x1024x4x192_0_2_1_3) shapeCasts_S4x1024x4x192_S4x1024x768

/-- The packed biases, laid out as the weights' columns are. -/
def packB (q k v : FVec Ideal S16x64 .f32) : FVec Ideal S4x1x768 .f32 :=
  shapeCast S4x1x768 (concatenate S16x192 1 [⟨S16x64, q⟩, ⟨S16x64, k⟩, ⟨S16x64, v⟩] concatenates_S16x64_S16x64_S16x64_S16x192_d1)
    shapeCasts_S16x192_S4x1x768

/-- Two places of a matrix with the same coordinates are one place. -/
theorem ix2_same {n0 n1 : ℕ} {a a' : Fin n0} {b b' : Fin n1} (ha : (a : ℕ) = a') (hb : (b : ℕ) = b') : ix2 a b = ix2 a' b' := by
  rw [Fin.ext ha, Fin.ext hb]

/-- Two places of a three-dimensional array with the same coordinates are one place. -/
theorem ix3_same {n0 n1 n2 : ℕ} {a a' : Fin n0} {b b' : Fin n1} {c c' : Fin n2} (ha : (a : ℕ) = a') (hb : (b : ℕ) = b')
    (hc : (c : ℕ) = c') : ix3 a b c = ix3 a' b' c' := by
  rw [Fin.ext ha, Fin.ext hb, Fin.ext hc]

/-- The packed weights' columns of group `g`'s head `j`: its query weights from column `192 j` on. -/
theorem packW_q (q k v : FVec Ideal S16x1024x64 .f32) (g j : Fin 4) (d : Fin 1024) (e : Fin 64) :
    packW q k v (ix3 g d ⟨192 * (j : ℕ) + e, by omega⟩) = q (ix3 ⟨4 * (g : ℕ) + j, by omega⟩ d e) := by
  pointwise [packW]
  rw [dif_pos (by omega)]
  refine congrArg q (ix3_same ?_ rfl ?_)
  · show (g : ℕ) * 4 + (j : ℕ) = 4 * (g : ℕ) + j; omega
  · show (192 * (j : ℕ) + e) % 192 = e; omega

/-- Its key weights from column `192 j + 64` on. -/
theorem packW_k (q k v : FVec Ideal S16x1024x64 .f32) (g j : Fin 4) (d : Fin 1024) (e : Fin 64) :
    packW q k v (ix3 g d ⟨192 * (j : ℕ) + 64 + e, by omega⟩) = k (ix3 ⟨4 * (g : ℕ) + j, by omega⟩ d e) := by
  pointwise [packW]
  rw [dif_neg (by omega), dif_pos (by omega)]
  refine congrArg k (ix3_same ?_ rfl ?_)
  · show (g : ℕ) * 4 + (j : ℕ) = 4 * (g : ℕ) + j; omega
  · show (192 * (j : ℕ) + 64 + e) % 192 - 64 = e; omega

/-- Its value weights from column `192 j + 128` on. -/
theorem packW_v (q k v : FVec Ideal S16x1024x64 .f32) (g j : Fin 4) (d : Fin 1024) (e : Fin 64) :
    packW q k v (ix3 g d ⟨192 * (j : ℕ) + 128 + e, by omega⟩) = v (ix3 ⟨4 * (g : ℕ) + j, by omega⟩ d e) := by
  pointwise [packW]
  rw [dif_neg (by omega), dif_neg (by omega)]
  refine congrArg v (ix3_same ?_ rfl ?_)
  · show (g : ℕ) * 4 + (j : ℕ) = 4 * (g : ℕ) + j; omega
  · show (192 * (j : ℕ) + 128 + e) % 192 - 64 - 64 = e; omega

/-- The packed biases' columns of group `g`'s head `j`: its query biases. -/
theorem packB_q (q k v : FVec Ideal S16x64 .f32) (g j : Fin 4) (e : Fin 64) :
    packB q k v (ix3 g 0 ⟨192 * (j : ℕ) + e, by omega⟩) = q (ix2 ⟨4 * (g : ℕ) + j, by omega⟩ e) := by
  pointwise [packB]
  rw [dif_pos (by omega)]
  refine congrArg q (ix2_same ?_ ?_)
  · show (g : ℕ) * 4 + (192 * (j : ℕ) + e) / 192 = 4 * (g : ℕ) + j; omega
  · show (192 * (j : ℕ) + e) % 192 = e; omega

/-- Its key biases. -/
theorem packB_k (q k v : FVec Ideal S16x64 .f32) (g j : Fin 4) (e : Fin 64) :
    packB q k v (ix3 g 0 ⟨192 * (j : ℕ) + 64 + e, by omega⟩) = k (ix2 ⟨4 * (g : ℕ) + j, by omega⟩ e) := by
  pointwise [packB]
  rw [dif_neg (by omega), dif_pos (by omega)]
  refine congrArg k (ix2_same ?_ ?_)
  · show (g : ℕ) * 4 + (192 * (j : ℕ) + 64 + e) / 192 = 4 * (g : ℕ) + j; omega
  · show (192 * (j : ℕ) + 64 + e) % 192 - 64 = e; omega

/-- Its value biases. -/
theorem packB_v (q k v : FVec Ideal S16x64 .f32) (g j : Fin 4) (e : Fin 64) :
    packB q k v (ix3 g 0 ⟨192 * (j : ℕ) + 128 + e, by omega⟩) = v (ix2 ⟨4 * (g : ℕ) + j, by omega⟩ e) := by
  pointwise [packB]
  rw [dif_neg (by omega), dif_neg (by omega)]
  refine congrArg v (ix2_same ?_ ?_)
  · show (g : ℕ) * 4 + (192 * (j : ℕ) + 128 + e) / 192 = 4 * (g : ℕ) + j; omega
  · show (192 * (j : ℕ) + 128 + e) % 192 - 64 - 64 = e; omega

/-- A projection out of packed weights whose columns from `a` on are head `h`'s own is head `h`'s projection. -/
theorem packed_eq_lin (x : FVec Ideal S2x2048x1024 .bf16) (W : FVec Ideal S4x1024x768 .bf16) (w : FVec Ideal S4x1x768 .f32)
    (U : FVec Ideal S16x1024x64 .f32) (u : FVec Ideal S16x64 .f32) (b : Fin 2) (g : Fin 4) (h : Fin 16) (a : ℕ) (ha : a + 64 ≤ 768)
    (hW : ∀ (d : Fin 1024) (e : Fin 64), W (ix3 g d ⟨a + e, by omega⟩) = U (ix3 h d e))
    (hw : ∀ e : Fin 64, w (ix3 g 0 ⟨a + e, by omega⟩) = u (ix2 h e)) : packed x W w b g a ha = lin x U u b h := by
  funext s e
  rw [packed, lin, hw]
  congr 1
  exact Finset.sum_congr rfl fun d _ => by rw [hW, mul_comm]

/-- The heads' outputs of the packed weights: each head's attention of its own projections. -/
theorem attnArr_pack (x : FVec Ideal S2x2048x1024 .bf16) (Wq Wk Wv : FVec Ideal S16x1024x64 .f32) (wq wk wv : FVec Ideal S16x64 .f32)
    (b : Fin 2) (h : Fin 16) (s : Fin 2048) (e : Fin 64) :
    attnArr x (packW Wq Wk Wv) (packB wq wk wv) (ix4 b h s e) = headK (lin x Wq wq b h) (lin x Wk wk b h) (lin x Wv wv b h) s e := by
  obtain ⟨g, j, rfl⟩ : ∃ g j : Fin 4, h = ⟨4 * (g : ℕ) + j, by omega⟩ :=
    ⟨⟨(h : ℕ) / 4, by omega⟩, ⟨(h : ℕ) % 4, by omega⟩, Fin.ext (by show (h : ℕ) = 4 * ((h : ℕ) / 4) + (h : ℕ) % 4; omega)⟩
  rw [attnArr_apply, headOf]
  rw [packed_eq_lin x _ _ Wq wq b g _ _ _ (fun d e => packW_q Wq Wk Wv g j d e) (fun e => packB_q wq wk wv g j e),
    packed_eq_lin x _ _ Wk wk b g _ _ _ (fun d e => packW_k Wq Wk Wv g j d e) (fun e => packB_k wq wk wv g j e),
    packed_eq_lin x _ _ Wv wv b g _ _ _ (fun d e => packW_v Wq Wk Wv g j d e) (fun e => packB_v wq wk wv g j e)]

/-- The projected rows put back in batch order, the output weights and bias laid out by the host: the projected heads. -/
theorem rows_apply (H : FVec Ideal S2x16x2048x64 .bf16) (P : FVec Ideal S1024x1024 .f32) (p : FVec Ideal S1024 .f32)
    (b : Fin 2) (s : Fin 2048) (n : Fin 1024) :
    (shapeCast S2x2048x1024 (projArr H (truncf .bf16 (shapeCast S16x64x1024 P shapeCasts_S1024x1024_S16x64x1024) bitsLt_bf16_f32)
      (shapeCast S1x1024 p shapeCasts_S1024_S1x1024)) shapeCasts_S4x1024x1024_S2x2048x1024 : FVec Ideal S2x2048x1024 .f32) (ix3 b s n)
      = out (fun h e => H (ix4 b h s e)) P p n := by
  rw [out_eq]
  set Q : FVec Ideal S16x64x1024 .bf16 := truncf .bf16 (shapeCast S16x64x1024 P shapeCasts_S1024x1024_S16x64x1024) bitsLt_bf16_f32 with hQ
  set q : FVec Ideal S1x1024 .f32 := shapeCast S1x1024 p shapeCasts_S1024_S1x1024 with hq
  have eQ : ∀ (h : Fin 16) (e : Fin 64), Q (ix3 h e n) = P (ix2 ⟨64 * (h : ℕ) + e, by omega⟩ n) := fun h e => by
    rw [hQ]
    pointwise
    exact congrArg P (ix2_same (by show (h : ℕ) * 64 + e = 64 * (h : ℕ) + e; omega) rfl)
  have eq : q (ix2 0 n) = p (ix1 n) := by
    rw [hq]
    pointwise
  have er : (shapeCast S2x2048x1024 (projArr H Q q) shapeCasts_S4x1024x1024_S2x2048x1024 : FVec Ideal S2x2048x1024 .f32) (ix3 b s n)
      = projArr H Q q (ix3 ⟨2 * (b : ℕ) + (s : ℕ) / 1024, by omega⟩ ⟨(s : ℕ) % 1024, by omega⟩ n) := by
    pointwise
    exact congrArg _ (ix3_same (by show (b : ℕ) * 2 + (s : ℕ) / 1024 = 2 * (b : ℕ) + (s : ℕ) / 1024; omega) rfl rfl)
  rw [er]
  show (∑ h : Fin 16, ∑ e : Fin 64, H (ix4 ⟨(2 * (b : ℕ) + (s : ℕ) / 1024) / 2, _⟩ h
    ⟨1024 * ((2 * (b : ℕ) + (s : ℕ) / 1024) % 2) + (s : ℕ) % 1024, _⟩ e) * Q (ix3 h e n)) + q (ix2 0 n) = _
  have e1 : (⟨(2 * (b : ℕ) + (s : ℕ) / 1024) / 2, by omega⟩ : Fin 2) = b := Fin.ext (by
    show (2 * (b : ℕ) + (s : ℕ) / 1024) / 2 = b; omega)
  have e2 : (⟨1024 * ((2 * (b : ℕ) + (s : ℕ) / 1024) % 2) + (s : ℕ) % 1024, by omega⟩ : Fin 2048) = s := Fin.ext (by
    show 1024 * ((2 * (b : ℕ) + (s : ℕ) / 1024) % 2) + (s : ℕ) % 1024 = s; omega)
  rw [e1, e2]
  simp only [eQ, eq]

variable (m : (ℓ : Loc nD τ sig) → Buf (Elt Ideal) ℓ) (ρ : Dev nD → PrngReg)

/-- The first launch finds the input itself. -/
theorem v7_eq (c : Dev nD) : V1 m ρ c main_v7 = m ((c : Thread nD τ).loc main_arg0) := by
  show StableHlo.after hostOps0 _ (Proc.devRef .tc main_v7) = _
  after_reads_simp
  rfl

/-- The first launch finds the packed weights. -/
theorem v4_eq (c : Dev nD) : V1 m ρ c main_v4
    = packW (m ((c : Thread nD τ).loc main_arg1)) (m ((c : Thread nD τ).loc main_arg3)) (m ((c : Thread nD τ).loc main_arg5)) := by
  show StableHlo.after hostOps0 _ (Proc.devRef .tc main_v4) = _
  after_reads_simp
  rfl

/-- The first launch finds the packed biases. -/
theorem v6_eq (c : Dev nD) : V1 m ρ c main_v6
    = packB (m ((c : Thread nD τ).loc main_arg2)) (m ((c : Thread nD τ).loc main_arg4)) (m ((c : Thread nD τ).loc main_arg6)) := by
  show StableHlo.after hostOps0 _ (Proc.devRef .tc main_v6) = _
  after_reads_simp
  rfl

/-- The second launch finds the heads' outputs the first left. -/
theorem v8_eq (c : Dev nD) : V3 m ρ c main_v8
    = attnArr (m ((c : Thread nD τ).loc main_arg0))
        (packW (m ((c : Thread nD τ).loc main_arg1)) (m ((c : Thread nD τ).loc main_arg3)) (m ((c : Thread nD τ).loc main_arg5)))
        (packB (m ((c : Thread nD τ).loc main_arg2)) (m ((c : Thread nD τ).loc main_arg4)) (m ((c : Thread nD τ).loc main_arg6))) := by
  rw [← v7_eq m ρ c, ← v4_eq m ρ c, ← v6_eq m ρ c, ← attn_arr (V1 m ρ) c]
  exact (W3_of m ρ c main_v8 (by decide)).trans (W2_arr m ρ c 3)

/-- The second launch finds the output weights, split by heads. -/
theorem v10_eq (c : Dev nD) : V3 m ρ c main_v10 = (truncf .bf16 (shapeCast S16x64x1024 (m ((c : Thread nD τ).loc main_arg7) : FVec Ideal S1024x1024 .f32)
    shapeCasts_S1024x1024_S16x64x1024) bitsLt_bf16_f32 : FVec Ideal S16x64x1024 .bf16) := by
  rw [← W2_args m ρ c main_arg7 (by decide)]
  show StableHlo.after hostOps1 _ (Proc.devRef .tc main_v10) = _
  after_reads_simp
  rfl

/-- The second launch finds the output bias as one row. -/
theorem v11_eq (c : Dev nD) : V3 m ρ c main_v11 = (shapeCast S1x1024 (m ((c : Thread nD τ).loc main_arg8) : FVec Ideal S1024 .f32)
    shapeCasts_S1024_S1x1024 : FVec Ideal S1x1024 .f32) := by
  rw [← W2_args m ρ c main_arg8 (by decide)]
  show StableHlo.after hostOps1 _ (Proc.devRef .tc main_v11) = _
  after_reads_simp
  rfl

/-- The result is the second launch's rows put back in batch order. -/
theorem v13_eq (c : Dev nD) : W5 m ρ c (Proc.devRef .tc main_v13)
    = (shapeCast S2x2048x1024 (projArr (V3 m ρ c main_v8) (V3 m ρ c main_v10) (V3 m ρ c main_v11)) shapeCasts_S4x1024x1024_S2x2048x1024
      : FVec Ideal S2x2048x1024 .f32) := by
  rw [← proj_arr (V3 m ρ) c, ← W4_arr m ρ c 3]
  show StableHlo.after hostOps2 _ (Proc.devRef .tc main_v13) = _
  after_reads_simp
  rfl

/-- The kernel's result at an element: every head's attention of its own projections, projected out. -/
theorem result_apply (c : Dev nD) (b : Fin 2) (s : Fin 2048) (n : Fin 1024) :
    (W5 m ρ c (Proc.devRef .tc main_v13) : FVec Ideal S2x2048x1024 .f32) (ix3 b s n)
      = out (fun h e => headK
          (lin (m ((c : Thread nD τ).loc main_arg0)) (m ((c : Thread nD τ).loc main_arg1)) (m ((c : Thread nD τ).loc main_arg2)) b h)
          (lin (m ((c : Thread nD τ).loc main_arg0)) (m ((c : Thread nD τ).loc main_arg3)) (m ((c : Thread nD τ).loc main_arg4)) b h)
          (lin (m ((c : Thread nD τ).loc main_arg0)) (m ((c : Thread nD τ).loc main_arg5)) (m ((c : Thread nD τ).loc main_arg6)) b h) s e)
        (m ((c : Thread nD τ).loc main_arg7)) (m ((c : Thread nD τ).loc main_arg8)) n := by
  rw [v13_eq, v8_eq, v10_eq, v11_eq]
  refine (rows_apply _ _ _ b s n).trans ?_
  congr 1
  funext h e
  exact attnArr_pack _ _ _ _ _ _ _ b h s e

end Cert.KernelIdeal.At

end
-- ==== Proof.KernelRun.lean ====
/-
  The kernel's run with its result: it terminates, the result array holds what the last host operation leaves there and
  the arguments are as launched.
-/
module

public import proofs.«01_k».proof.Proof.HostArrays

@[expose] public section

set_option maxRecDepth 16384

noncomputable section

namespace Cert.KernelIdeal.At

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- From any memory with zero counters the kernel terminates, and every final state has the result array at the last
    boundary's contents and every argument as launched. -/
theorem run : θ_run defs (onTc (τ := τ) (main (F := Ideal))) ⟨m, fun _ => 0, ρ⟩ (fun r => ∀ c : Dev nD,
      r.2.mem ((c.tc : Thread nD τ).loc main_v13) = W5 m ρ c (Proc.devRef .tc main_v13)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => fun c =>
      ⟨h c _ (mem_uc main_v13 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c)⟩)

end Cert.KernelIdeal.At

end
-- ==== Proof.RefValue.lean ====
/-
  The reference's result read at an element: its composed term cut at the projections, the scores, the softmax and the
  output, each stage read at an index.
-/
module

public import proofs.«01_k».proof.Proof.Math
public import proofs.«01_k».proof.Proof.Gen.ReferenceIdeal.Run

@[expose] public section

set_option maxRecDepth 16384

noncomputable section

namespace Cert.ReferenceIdeal.At

open Cert.ReferenceIdeal Cert.ReferenceIdeal.Gen Idealize.ShloMosaic Idealize.ShloMosaic.TcCoe Cert.Attn

/-- A head's projection of the input, as the host computes it: the product with the weights first, then transposed. -/
def proj (W : FVec Ideal S16x1024x64 .f32) (x : FVec Ideal S2x2048x1024 .f32) (w : FVec Ideal S16x64 .f32) : FVec Ideal S2x16x2048x64 .f32 :=
  addf (transpose S2x16x2048x64 [2, 0, 3, 1] (Host.dotGeneral dot_S16x1024x64_S2x2048x1024_S16x64x2x2048_1_2_02_01_n_n none W x)
      transposes_S16x64x2x2048_S2x16x2048x64_2_0_3_1)
    (broadcastInDim S2x16x2048x64 ![0, 1, 2, 3] bcast_S1x16x1x64_S2x16x2048x64_0_1_2_3
      (broadcastInDim S1x16x1x64 ![1, 3] bcast_S16x64_S1x16x1x64_1_3 w))

/-- The scores over the root of the sequence length. -/
def scores (q k : FVec Ideal S2x16x2048x64 .f32) : FVec Ideal S2x16x2048x2048 .f32 :=
  Host.divf (Host.dotGeneral dot_S2x16x2048x64_S2x16x2048x64_S2x16x2048x2048_3_3_2_2_01_01 none q k)
    (broadcastInDim S2x16x2048x2048 ![] bcast_S_S2x16x2048x2048 (Host.sqrt (constant S_ .f32 0x45000000#32)))

/-- The rows' greatest scores. -/
def rowMax (z : FVec Ideal S2x16x2048x2048 .f32) : FVec Ideal S2x16x2048 .f32 :=
  Host.reduce FloatOps.maximumf z (constant S_ .f32 0xFF800000#32) reducesTo_S2x16x2048x2048_S2x16x2048_d3 h_S_

/-- The weights before the division: e to each score less its row's number `M`. -/
def weights (z : FVec Ideal S2x16x2048x2048 .f32) (M : FVec Ideal S2x16x2048 .f32) : FVec Ideal S2x16x2048x2048 .f32 :=
  Host.exp (subf z (broadcastInDim S2x16x2048x2048 ![0, 1, 2, 3] bcast_S2x16x2048x1_S2x16x2048x2048_0_1_2_3
    (broadcastInDim S2x16x2048x1 ![0, 1, 2] bcast_S2x16x2048_S2x16x2048x1_0_1_2
      (maximumf (broadcastInDim S2x16x2048 ![] bcast_S_S2x16x2048 (constant S_ .f32 0xFF800000#32)) M))))

/-- The heads: the weights over their row sums, times the values. -/
def heads (p : FVec Ideal S2x16x2048x2048 .f32) (v : FVec Ideal S2x16x2048x64 .f32) : FVec Ideal S2x16x2048x64 .f32 :=
  Host.dotGeneral dot_S2x16x2048x2048_S2x16x2048x64_S2x16x2048x64_3_2_2_3_01_01 none
    (Host.divf p (broadcastInDim S2x16x2048x2048 ![0, 1, 2, 3] bcast_S2x16x2048x1_S2x16x2048x2048_0_1_2_3
      (broadcastInDim S2x16x2048x1 ![0, 1, 2] bcast_S2x16x2048_S2x16x2048x1_0_1_2
        (Host.reduceAdd p (constant S_ .f32 0x00000000#32) reducesTo_S2x16x2048x2048_S2x16x2048_d3 h_S_)))) v

/-- The output: the heads side by side, times the output weights, plus the output bias. -/
def output (H : FVec Ideal S2x16x2048x64 .f32) (P : FVec Ideal S1024x1024 .f32) (p : FVec Ideal S1024 .f32) : FVec Ideal S2x2048x1024 .f32 :=
  addf (Host.dotGeneral dot_S2x2048x1024_S1024x1024_S2x2048x1024_2_0_01_1_n_n none
      (shapeCast S2x2048x1024 (transpose S2x2048x16x64 [0, 2, 1, 3] H transposes_S2x16x2048x64_S2x2048x16x64_0_2_1_3)
        shapeCasts_S2x2048x16x64_S2x2048x1024) P)
    (broadcastInDim S2x2048x1024 ![0, 1, 2] bcast_S1x1x1024_S2x2048x1024_0_1_2
      (broadcastInDim S1x1x1024 ![2] bcast_S1024_S1x1x1024_2 p))

/-- The projection at an element. -/
theorem proj_apply (W : FVec Ideal S16x1024x64 .f32) (x : FVec Ideal S2x2048x1024 .f32) (w : FVec Ideal S16x64 .f32)
    (b : Fin 2) (h : Fin 16) (s : Fin 2048) (e : Fin 64) : proj W x w (ix4 b h s e) = lin x W w b h s e := by
  pointwise [proj, lin]

/-- The constant the scores are divided by is the root of 2048. -/
theorem sqrt_const : Ideal.sqrt (Ideal.ofBits .f32 0x45000000#32) = ((Real.sqrt 2048 : ℝ) : EReal) := by
  have h : Ideal.ofBits .f32 0x45000000#32 = ((2048 : ℝ) : EReal) := by
    simp [Ideal.ofBits, Ideal.ieee, -EReal.coe_mul]; norm_num
  rw [h, Ideal.sqrt_coe, if_neg (by norm_num)]

/-- The constant the row maximum starts from is −∞. -/
theorem neg_inf : Ideal.ofBits .f32 0xFF800000#32 = ⊥ := by
  simp [Ideal.ofBits, Ideal.ieee]

/-- The scores at an element. -/
theorem scores_apply (q k : FVec Ideal S2x16x2048x64 .f32) (b : Fin 2) (h : Fin 16) (s t : Fin 2048) :
    scores q k (ix4 b h s t)
      = Ideal.div (dot (fun s e => q (ix4 b h s e)) (fun s e => k (ix4 b h s e)) s t) ((Real.sqrt 2048 : ℝ) : EReal) := by
  rw [← sqrt_const]
  pointwise [scores, dot]

/-- A maximum over the last of four axes, at any sizes: the greatest element along it. -/
theorem reduce_max_last {n0 n1 n2 n3 : ℕ} (z : FVec Ideal ⟨4, ![n0, n1, n2, n3]⟩ .f32) (init : FVec Ideal ⟨0, ![]⟩ .f32)
    (h : (⟨4, ![n0, n1, n2, n3]⟩ : Shape).ReducesTo [3] ⟨3, ![n0, n1, n2]⟩) (hu : 0 < (⟨0, ![]⟩ : Shape).numel)
    (a : Fin n0) (b : Fin n1) (c : Fin n2) :
    Host.reduce FloatOps.maximumf z init h hu (ix3 a b c)
      = Finset.univ.fold max (init (Shape.Idx.first hu)) fun u : Fin n3 => z (ix4 a b c u) := by
  rw [Host.reduce_eq_fold, h.fold_fiber_r4_a3]
  rfl

/-- The rows' greatest scores at an element. -/
theorem rowMax_apply (z : FVec Ideal S2x16x2048x2048 .f32) (b : Fin 2) (h : Fin 16) (s : Fin 2048) :
    rowMax z (ix3 b h s) = Finset.univ.fold max ⊥ fun u => z (ix4 b h s u) := by
  rw [rowMax, reduce_max_last, ← neg_inf]
  rfl

/-- The weights at an element. -/
theorem weights_apply (z : FVec Ideal S2x16x2048x2048 .f32) (M : FVec Ideal S2x16x2048 .f32) (b : Fin 2) (h : Fin 16) (s t : Fin 2048) :
    weights z M (ix4 b h s t) = Ideal.exp (z (ix4 b h s t) - M (ix3 b h s)) := by
  pointwise [weights]
  rw [neg_inf, max_eq_right bot_le]

/-- The heads at an element. -/
theorem heads_apply (p : FVec Ideal S2x16x2048x2048 .f32) (v : FVec Ideal S2x16x2048x64 .f32) (b : Fin 2) (h : Fin 16)
    (s : Fin 2048) (e : Fin 64) :
    heads p v (ix4 b h s e) = ∑ t : Fin 2048, Ideal.div (p (ix4 b h s t)) (∑ u : Fin 2048, p (ix4 b h s u)) * v (ix4 b h t e) := by
  pointwise [heads]

/-- The output at an element. -/
theorem output_apply (H : FVec Ideal S2x16x2048x64 .f32) (P : FVec Ideal S1024x1024 .f32) (p : FVec Ideal S1024 .f32)
    (b : Fin 2) (s : Fin 2048) (n : Fin 1024) :
    output H P p (ix3 b s n) = out (fun h e => H (ix4 b h s e)) P p n := by
  pointwise [output, out]

/-- The heads of the scores `z` and the values `v`. -/
def attend (z : FVec Ideal S2x16x2048x2048 .f32) (v : FVec Ideal S2x16x2048x64 .f32) : FVec Ideal S2x16x2048x64 .f32 :=
  heads (weights z (rowMax z)) v

/-- The reference's result is the composition of the stages. -/
theorem res_eq (m : (ℓ : Loc nD τ sig) → Buf (Elt Ideal) ℓ) (c : Dev nD) :
    Value.res_out0 m c = output
      (attend (scores
          (proj (m (c.tc.loc main_arg1)) (m (c.tc.loc main_arg0)) (m (c.tc.loc main_arg2)))
          (proj (m (c.tc.loc main_arg3)) (m (c.tc.loc main_arg0)) (m (c.tc.loc main_arg4))))
        (proj (m (c.tc.loc main_arg5)) (m (c.tc.loc main_arg0)) (m (c.tc.loc main_arg6))))
      (m (c.tc.loc main_arg7)) (m (c.tc.loc main_arg8)) := rfl

/-- The stages' composition at an element: every head's softmax attention of the projected input, projected out. -/
theorem stages_apply (x : FVec Ideal S2x2048x1024 .f32) (Wq : FVec Ideal S16x1024x64 .f32) (wq : FVec Ideal S16x64 .f32)
    (Wk : FVec Ideal S16x1024x64 .f32) (wk : FVec Ideal S16x64 .f32) (Wv : FVec Ideal S16x1024x64 .f32) (wv : FVec Ideal S16x64 .f32)
    (P : FVec Ideal S1024x1024 .f32) (p : FVec Ideal S1024 .f32) (b : Fin 2) (s : Fin 2048) (n : Fin 1024) :
    output (attend (scores (proj Wq x wq) (proj Wk x wk)) (proj Wv x wv)) P p (ix3 b s n)
      = out (fun h e => headR (lin x Wq wq b h) (lin x Wk wk b h) (lin x Wv wv b h) s e) P p n := by
  rw [output_apply]
  congr 1
  funext h e
  simp only [attend, heads_apply, weights_apply, rowMax_apply, scores_apply, proj_apply, headR]

end Cert.ReferenceIdeal.At

end
-- ==== Proof.PreValue.lean ====
/-
  What the precondition says: every element of the input and of the query and key weights and biases is a real number.
  The queries and keys are then real numbers too, and each head's two ways of writing agree.
-/
module

public import proofs.«01_k».proof.Defs
public import proofs.«01_k».proof.Proof.Gen.Pre_finite_queries_and_keys
public import proofs.«01_k».proof.Proof.Math
public import Idealize.ShloMosaic.Lib.ReduceAll

@[expose] public section

set_option maxRecDepth 16384

noncomputable section

namespace Cert.Pre_finite_queries_and_keys.At

open Cert.Pre_finite_queries_and_keys Cert.Pre_finite_queries_and_keys.Facts Idealize.ShloMosaic Cert.Attn

/-- The word the precondition compares against is infinity. -/
theorem pos_inf : Ideal.ofBits .f32 0x7F800000#32 = ⊤ := by
  simp [Ideal.ofBits, Ideal.ieee]

/-- A number whose absolute value is below infinity is real. -/
theorem real_of_lt {a : EReal} (h : Ideal.cmp .olt (max a (-a)) ⊤ = 1#1) : ∃ r : ℝ, a = r := by
  have hlt : max a (-a) < ⊤ := by
    by_contra hn
    rw [Ideal.cmp, decide_eq_false hn] at h
    exact absurd h (by decide)
  induction a with
  | bot => exact absurd hlt (by simp)
  | coe r => exact ⟨r, rfl⟩
  | top => exact absurd hlt (by simp)

/-- An array that passes the precondition's test has a real number at every place. -/
theorem all_real {s : Shape} (x : FVec Ideal s .f32) (hb : S_.BroadcastsInDim s (![] : Fin 0 → Fin s.rank)) {axes : List (Fin s.rank)}
    (hr : s.ReducesTo axes S_) (hu : 0 < S_.numel) (j : S_.Idx)
    (h : Host.reduce IntOp.andi (cmpf .olt (Host.absf x) (broadcastInDim s ![] hb (constant S_ .f32 0x7F800000#32))) (constantI S_ 1 1#1) hr hu j = 1#1)
    (i : s.Idx) : ∃ r : ℝ, x i = (r : EReal) := by
  have h1 := Host.reduce_andi_all _ _ hr hu j h i
  refine real_of_lt ?_
  rw [← pos_inf]
  exact h1

/-- The precondition as five statements: the input, the query weights and biases, and the key weights and biases are real. -/
theorem args_real (x : FVec Ideal S2x2048x1024 .f32) (Wq : FVec Ideal S16x1024x64 .f32) (wq : FVec Ideal S16x64 .f32)
    (Wk : FVec Ideal S16x1024x64 .f32) (wk : FVec Ideal S16x64 .f32) (Wv : FVec Ideal S16x1024x64 .f32) (wv : FVec Ideal S16x64 .f32)
    (P : FVec Ideal S1024x1024 .f32) (p : FVec Ideal S1024 .f32) (h : fn (F := Ideal) x Wq wq Wk wk Wv wv P p = fun _ => 1#1) :
    (∀ i, ∃ r : ℝ, x i = (r : EReal)) ∧ (∀ i, ∃ r : ℝ, Wq i = (r : EReal)) ∧ (∀ i, ∃ r : ℝ, wq i = (r : EReal))
      ∧ (∀ i, ∃ r : ℝ, Wk i = (r : EReal)) ∧ ∀ i, ∃ r : ℝ, wk i = (r : EReal) := by
  have h0 := congrFun h (Shape.Idx.first h_S_)
  obtain ⟨h1, e4⟩ := IntOp.andi_eq_one.1 h0
  obtain ⟨h2, e3⟩ := IntOp.andi_eq_one.1 h1
  obtain ⟨h3, e2⟩ := IntOp.andi_eq_one.1 h2
  obtain ⟨e0, e1⟩ := IntOp.andi_eq_one.1 h3
  exact ⟨all_real x _ _ _ _ e0, all_real Wq _ _ _ _ e1, all_real wq _ _ _ _ e2, all_real Wk _ _ _ _ e3, all_real wk _ _ _ _ e4⟩

/-- A projection of real numbers by real weights and biases is real. -/
theorem lin_real (x : A3 2 2048 1024) (W : A3 16 1024 64) (w : A2 16 64) (hx : ∀ i, ∃ r : ℝ, x i = (r : EReal))
    (hW : ∀ i, ∃ r : ℝ, W i = (r : EReal)) (hw : ∀ i, ∃ r : ℝ, w i = (r : EReal)) (b : Fin 2) (h : Fin 16) :
    ∃ f : Fin 2048 → Fin 64 → ℝ, lin x W w b h = fun s e => (f s e : EReal) := by
  choose X hX using hx
  choose V hV using hW
  choose v hv using hw
  refine ⟨fun s e => ∑ d : Fin 1024, V (ix3 h d e) * X (ix3 b s d) + v (ix2 h e), ?_⟩
  funext s e
  simp only [lin, hX, hV, hv, ← EReal.coe_mul, sum_real, ← EReal.coe_add]

/-- Under the precondition every head comes out the same from the kernel's formula and from the reference's. -/
theorem heads_eq (x : A3 2 2048 1024) (Wq Wk Wv : A3 16 1024 64) (wq wk wv : A2 16 64) (hx : ∀ i, ∃ r : ℝ, x i = (r : EReal))
    (hWq : ∀ i, ∃ r : ℝ, Wq i = (r : EReal)) (hwq : ∀ i, ∃ r : ℝ, wq i = (r : EReal))
    (hWk : ∀ i, ∃ r : ℝ, Wk i = (r : EReal)) (hwk : ∀ i, ∃ r : ℝ, wk i = (r : EReal)) (b : Fin 2) (h : Fin 16) (s : Fin 2048) (e : Fin 64) :
    headK (lin x Wq wq b h) (lin x Wk wk b h) (lin x Wv wv b h) s e = headR (lin x Wq wq b h) (lin x Wk wk b h) (lin x Wv wv b h) s e := by
  obtain ⟨q, hq⟩ := lin_real x Wq wq hx hWq hwq b h
  obtain ⟨k, hk⟩ := lin_real x Wk wk hx hWk hwk b h
  rw [hq, hk]
  exact head_eq q k _ s e

end Cert.Pre_finite_queries_and_keys.At

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite_queries_and_keys
public import proofs.«01_k».proof.Proof.KernelRun
public import proofs.«01_k».proof.Proof.RefValue
public import proofs.«01_k».proof.Proof.PreValue
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem Cert.Attn

/-- On inputs whose queries and keys are real, the reference's result is the kernel's, element by element. -/
theorem results_eq (m : (ℓ : Loc KernelIdeal.nD KernelIdeal.τ KernelIdeal.sig) → Buf (Elt Ideal) ℓ) (g : Dev KernelIdeal.nD → PrngReg)
    (m' : (ℓ : Loc ReferenceIdeal.nD ReferenceIdeal.τ ReferenceIdeal.sig) → Buf (Elt Ideal) ℓ)
    (hpre : Pre_KernelIdeal_finite_queries_and_keys m) (c : Dev KernelIdeal.nD)
    (hargs : m' ((c.tc : Thread ReferenceIdeal.nD ReferenceIdeal.τ).loc ReferenceIdeal.main_arg0) = m ((c.tc : Thread KernelIdeal.nD KernelIdeal.τ).loc KernelIdeal.main_arg0)
      ∧ m' ((c.tc : Thread ReferenceIdeal.nD ReferenceIdeal.τ).loc ReferenceIdeal.main_arg1) = m ((c.tc : Thread KernelIdeal.nD KernelIdeal.τ).loc KernelIdeal.main_arg1)
      ∧ m' ((c.tc : Thread ReferenceIdeal.nD ReferenceIdeal.τ).loc ReferenceIdeal.main_arg2) = m ((c.tc : Thread KernelIdeal.nD KernelIdeal.τ).loc KernelIdeal.main_arg2)
      ∧ m' ((c.tc : Thread ReferenceIdeal.nD ReferenceIdeal.τ).loc ReferenceIdeal.main_arg3) = m ((c.tc : Thread KernelIdeal.nD KernelIdeal.τ).loc KernelIdeal.main_arg3)
      ∧ m' ((c.tc : Thread ReferenceIdeal.nD ReferenceIdeal.τ).loc ReferenceIdeal.main_arg4) = m ((c.tc : Thread KernelIdeal.nD KernelIdeal.τ).loc KernelIdeal.main_arg4)
      ∧ m' ((c.tc : Thread ReferenceIdeal.nD ReferenceIdeal.τ).loc ReferenceIdeal.main_arg5) = m ((c.tc : Thread KernelIdeal.nD KernelIdeal.τ).loc KernelIdeal.main_arg5)
      ∧ m' ((c.tc : Thread ReferenceIdeal.nD ReferenceIdeal.τ).loc ReferenceIdeal.main_arg6) = m ((c.tc : Thread KernelIdeal.nD KernelIdeal.τ).loc KernelIdeal.main_arg6)
      ∧ m' ((c.tc : Thread ReferenceIdeal.nD ReferenceIdeal.τ).loc ReferenceIdeal.main_arg7) = m ((c.tc : Thread KernelIdeal.nD KernelIdeal.τ).loc KernelIdeal.main_arg7)
      ∧ m' ((c.tc : Thread ReferenceIdeal.nD ReferenceIdeal.τ).loc ReferenceIdeal.main_arg8) = m ((c.tc : Thread KernelIdeal.nD KernelIdeal.τ).loc KernelIdeal.main_arg8)) :
    (ReferenceIdeal.Value.res_out0 m' c : FVec Ideal ReferenceIdeal.S2x2048x1024 .f32)
      = (KernelIdeal.Gen.W5 m g c (Proc.devRef .tc KernelIdeal.main_v13) : FVec Ideal KernelIdeal.S2x2048x1024 .f32) := by
  obtain ⟨h0, h1, h2, h3, h4, h5, h6, h7, h8⟩ := hargs
  obtain ⟨hx, hWq, hwq, hWk, hwk⟩ := Pre_finite_queries_and_keys.At.args_real _ _ _ _ _ _ _ _ _ (hpre c)
  rw [ReferenceIdeal.At.res_eq, h0, h1, h2, h3, h4, h5, h6, h7, h8]
  funext i
  idx_vars i
  refine (ReferenceIdeal.At.stages_apply _ _ _ _ _ _ _ _ _ _ _ _).trans ((KernelIdeal.At.result_apply m g c _ _ _).trans ?_).symm
  congr 1
  funext h e
  exact Pre_finite_queries_and_keys.At.heads_eq _ _ _ _ _ _ _ hx hWq hwq hWk hwk _ h _ e

/-- The reference runs, leaves its arguments as launched, and has every counter at zero at the end. -/
theorem reference_frame : quiescent_ReferenceIdeal := fun m ρ _ =>
  (θ_run ReferenceIdeal.defs _ _).mono (fun r h => ⟨fun c => (h c).2, sem_eq_zero_of_no_sems (by decide) r.2⟩)
    (ReferenceIdeal.Value.run (F := Ideal) m ρ)

/-- The kernel and the reference end with equal results on inputs whose queries and keys are real. -/
theorem same_result : algebraic_KernelIdeal_ReferenceIdeal_pre_finite_queries_and_keys := by
  pair_intro
  · run_from KernelIdeal.At.run m g
  · run_from ReferenceIdeal.Value.run (F := Ideal) m' g'
    exact results_eq m g m' hpre c (hagree c)

/-- Every claim of the certificate. -/
theorem claim : Cert.Claim :=
  ⟨Cert.Kernel.Gen.facts, Cert.KernelIdeal.Gen.facts, Cert.ReferenceIdeal.Gen.facts, Cert.Pre_finite_queries_and_keys.Gen.facts,
    fun m ρ _ => Cert.Kernel.Gen.frame m ρ, fun m ρ _ => Cert.KernelIdeal.Gen.frame m ρ, fun m ρ _ => Cert.KernelIdeal.Gen.frame m ρ,
    reference_frame, fun m ρ _ => reference_frame m ρ trivial,
    IdealRules.named_const.statement _ _ _ _ _ rfl, same_result⟩

end Cert.Proof

end
